-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x4096x1024 : Shape := ⟨3, ![8, 4096, 1024]⟩
abbrev S8x4096x128 : Shape := ⟨3, ![8, 4096, 128]⟩
abbrev S16x1024 : Shape := ⟨2, ![16, 1024]⟩
abbrev S16x128 : Shape := ⟨2, ![16, 128]⟩
abbrev S32x16 : Shape := ⟨2, ![32, 16]⟩
abbrev S1x16 : Shape := ⟨2, ![1, 16]⟩
abbrev S_ : Shape := ⟨0, ![]⟩

class Facts : Prop where
  bcast_S_S8x4096x1024 : S_.BroadcastsInDim S8x4096x1024 (![] : Fin 0 → Fin S8x4096x1024.rank)
  bcast_S_S8x4096x128 : S_.BroadcastsInDim S8x4096x128 (![] : Fin 0 → Fin S8x4096x128.rank)
  bcast_S_S16x128 : S_.BroadcastsInDim S16x128 (![] : Fin 0 → Fin S16x128.rank)
  bcast_S_S32x16 : S_.BroadcastsInDim S32x16 (![] : Fin 0 → Fin S32x16.rank)
  bcast_S_S1x16 : S_.BroadcastsInDim S1x16 (![] : Fin 0 → Fin S1x16.rank)

variable [Facts]

def fn {F : FTy → Type} [FloatOps F] (main_arg0 : FVec F S8x4096x1024 .f32) (main_arg1 : FVec F S8x4096x128 .f32) (main_arg2 : FVec F S8x4096x128 .f32) (main_arg3 : FVec F S16x1024 .f32) (main_arg4 : FVec F S16x128 .f32) (main_arg5 : FVec F S16x128 .f32) (main_arg6 : FVec F S8x4096x1024 .f32) (main_arg7 : FVec F S32x16 .f32) (main_arg8 : FVec F S1x16 .f32) (main_arg9 : FVec F S8x4096x1024 .f32) : IVec S8x4096x1024 1 × IVec S8x4096x128 1 × IVec S16x128 1 × IVec S32x16 1 × IVec S1x16 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x4096x128 .f32 := Host.absf main_arg1
  let main_cst_0 : FVec F S_ .f32 := constant S_ .f32 0x7F800000#32
  let main_v4 : FVec F S8x4096x128 .f32 := broadcastInDim S8x4096x128 ![] bcast_S_S8x4096x128 main_cst_0
  let main_v5 : IVec S8x4096x128 1 := cmpf .olt main_v3 main_v4
  let main_v6 : FVec F S16x128 .f32 := Host.absf main_arg4
  let main_cst_1 : FVec F S_ .f32 := constant S_ .f32 0x7F800000#32
  let main_v7 : FVec F S16x128 .f32 := broadcastInDim S16x128 ![] bcast_S_S16x128 main_cst_1
  let main_v8 : IVec S16x128 1 := cmpf .olt main_v6 main_v7
  let main_v9 : FVec F S32x16 .f32 := Host.absf main_arg7
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_v12 : FVec F S1x16 .f32 := Host.absf main_arg8
  let main_cst_3 : FVec F S_ .f32 := constant S_ .f32 0x7F800000#32
  let main_v13 : FVec F S1x16 .f32 := broadcastInDim S1x16 ![] bcast_S_S1x16 main_cst_3
  let main_v14 : IVec S1x16 1 := cmpf .olt main_v12 main_v13
  (main_v2, main_v5, main_v8, main_v11, main_v14)
-- ==== Kernel.lean ====
abbrev S8x4096x1024 : Shape := ⟨3, ![8, 4096, 1024]⟩
abbrev S8x4096x128 : Shape := ⟨3, ![8, 4096, 128]⟩
abbrev S16x1024 : Shape := ⟨2, ![16, 1024]⟩
abbrev S16x128 : Shape := ⟨2, ![16, 128]⟩
abbrev S32x16 : Shape := ⟨2, ![32, 16]⟩
abbrev S1x16 : Shape := ⟨2, ![1, 16]⟩
abbrev S_ : Shape := ⟨0, ![]⟩
abbrev S112x1536 : Shape := ⟨2, ![112, 1536]⟩
abbrev S16x64 : Shape := ⟨2, ![16, 64]⟩
abbrev S16x256 : Shape := ⟨2, ![16, 256]⟩
abbrev S16x1536 : Shape := ⟨2, ![16, 1536]⟩
abbrev S128x1536 : Shape := ⟨2, ![128, 1536]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S256x128 : Shape := ⟨2, ![256, 128]⟩
abbrev S1x256x128 : Shape := ⟨3, ![1, 256, 128]⟩
abbrev S2x256x128 : Shape := ⟨3, ![2, 256, 128]⟩
abbrev S2x256x128x1 : Shape := ⟨4, ![2, 256, 128, 1]⟩
abbrev S2x256x128x16 : Shape := ⟨4, ![2, 256, 128, 16]⟩
abbrev S2x16x256x128 : Shape := ⟨4, ![2, 16, 256, 128]⟩
abbrev S2x1x256x128 : Shape := ⟨4, ![2, 1, 256, 128]⟩
abbrev S8x4096x64 : Shape := ⟨3, ![8, 4096, 64]⟩
abbrev S8x4096x256 : Shape := ⟨3, ![8, 4096, 256]⟩
abbrev S8x4096x1536 : Shape := ⟨3, ![8, 4096, 1536]⟩
abbrev S16 : Shape := ⟨1, ![16]⟩
abbrev S1x1024x1024 : Shape := ⟨3, ![1, 1024, 1024]⟩
abbrev S1x1024x512 : Shape := ⟨3, ![1, 1024, 512]⟩
abbrev S1x128x512 : Shape := ⟨3, ![1, 128, 512]⟩
abbrev S128x512 : Shape := ⟨2, ![128, 512]⟩
abbrev S1x16x256x128 : Shape := ⟨4, ![1, 16, 256, 128]⟩
abbrev S1x128 : Shape := ⟨2, ![1, 128]⟩
abbrev S1x1024x256 : Shape := ⟨3, ![1, 1024, 256]⟩
abbrev S1024x256 : Shape := ⟨2, ![1024, 256]⟩
abbrev S256x256 : Shape := ⟨2, ![256, 256]⟩
abbrev S1x128x128 : Shape := ⟨3, ![1, 128, 128]⟩
abbrev S128x128 : Shape := ⟨2, ![128, 128]⟩
abbrev S144x256 : Shape := ⟨2, ![144, 256]⟩
abbrev S1x1x256x128 : Shape := ⟨4, ![1, 1, 256, 128]⟩
abbrev S1 : Shape := ⟨1, ![1]⟩

abbrev nBuf : Space → Nat
  | .hbm => 119
  | .vmem => 16
  | .smem => 1
  | _ => 0

abbrev bufTy : (tb : Table) → Fin (tcTables nBuf tb) → BufTy
  | .hbm, ⟨0, _⟩ => ⟨S8x4096x1024, .f32⟩
  | .hbm, ⟨1, _⟩ => ⟨S8x4096x128, .f32⟩
  | .hbm, ⟨2, _⟩ => ⟨S8x4096x128, .f32⟩
  | .hbm, ⟨3, _⟩ => ⟨S16x1024, .f32⟩
  | .hbm, ⟨4, _⟩ => ⟨S16x128, .f32⟩
  | .hbm, ⟨5, _⟩ => ⟨S16x128, .f32⟩
  | .hbm, ⟨6, _⟩ => ⟨S8x4096x1024, .f32⟩
  | .hbm, ⟨7, _⟩ => ⟨S32x16, .f32⟩
  | .hbm, ⟨8, _⟩ => ⟨S1x16, .f32⟩
  | .hbm, ⟨9, _⟩ => ⟨S8x4096x1024, .f32⟩
  | .hbm, ⟨10, _⟩ => ⟨S_, .bf16⟩
  | .hbm, ⟨11, _⟩ => ⟨S112x1536, .bf16⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x64, .f32⟩
  | .hbm, ⟨16, _⟩ => ⟨S16x64, .f32⟩
  | .hbm, ⟨17, _⟩ => ⟨S16x256, .f32⟩
  | .hbm, ⟨18, _⟩ => ⟨S16x64, .f32⟩
  | .hbm, ⟨19, _⟩ => ⟨S16x64, .f32⟩
  | .hbm, ⟨20, _⟩ => ⟨S16x256, .f32⟩
  | .hbm, ⟨21, _⟩ => ⟨S16x1536, .f32⟩
  | .hbm, ⟨22, _⟩ => ⟨S16x1536, .bf16⟩
  | .hbm, ⟨23, _⟩ => ⟨S128x1536, .bf16⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S128x256, .f32⟩
  | .hbm, ⟨48, _⟩ => ⟨S_, .f32⟩
  | .hbm, ⟨49, _⟩ => ⟨S128x256, .f32⟩
  | .hbm, ⟨50, _⟩ => ⟨S128x256, .f32⟩
  | .hbm, ⟨51, _⟩ => ⟨S128x256, .f32⟩
  | .hbm, ⟨52, _⟩ => ⟨S_, .f32⟩
  | .hbm, ⟨53, _⟩ => ⟨S128x256, .f32⟩
  | .hbm, ⟨54, _⟩ => ⟨S128x256, .f32⟩
  | .hbm, ⟨55, _⟩ => ⟨S_, .f32⟩
  | .hbm, ⟨56, _⟩ => ⟨S128x256, .f32⟩
  | .hbm, ⟨57, _⟩ => ⟨S128x256, .f32⟩
  | .hbm, ⟨58, _⟩ => ⟨S128x256, .i32⟩
  | .hbm, ⟨59, _⟩ => ⟨S_, .i32⟩
  | .hbm, ⟨60, _⟩ => ⟨S128x256, .i32⟩
  | .hbm, ⟨61, _⟩ => ⟨S128x256, .i32⟩
  | .hbm, ⟨62, _⟩ => ⟨S_, .i32⟩
  | .hbm, ⟨63, _⟩ => ⟨S128x256, .i32⟩
  | .hbm, ⟨64, _⟩ => ⟨S128x256, .i32⟩
  | .hbm, ⟨65, _⟩ => ⟨S_, .i32⟩
  | .hbm, ⟨66, _⟩ => ⟨S128x256, .i32⟩
  | .hbm, ⟨67, _⟩ => ⟨S128x256, .i1⟩
  | .hbm, ⟨68, _⟩ => ⟨S128x256, .i32⟩
  | .hbm, ⟨69, _⟩ => ⟨S_, .i32⟩
  | .hbm, ⟨70, _⟩ => ⟨S_, .i32⟩
  | .hbm, ⟨71, _⟩ => ⟨S128x256, .i32⟩
  | .hbm, ⟨72, _⟩ => ⟨S128x256, .i32⟩
  | .hbm, ⟨73, _⟩ => ⟨S_, .i32⟩
  | .hbm, ⟨74, _⟩ => ⟨S1x256, .i32⟩
  | .hbm, ⟨75, _⟩ => ⟨S1x256, .i1⟩
  | .hbm, ⟨76, _⟩ => ⟨S128x256, .i1⟩
  | .hbm, ⟨77, _⟩ => ⟨S128x256, .i1⟩
  | .hbm, ⟨78, _⟩ => ⟨S_, .i32⟩
  | .hbm, ⟨79, _⟩ => ⟨S_, .i32⟩
  | .hbm, ⟨80, _⟩ => ⟨S128x256, .i32⟩
  | .hbm, ⟨81, _⟩ => ⟨S128x256, .i32⟩
  | .hbm, ⟨82, _⟩ => ⟨S256x128, .i32⟩
  | .hbm, ⟨83, _⟩ => ⟨S256x128, .i32⟩
  | .hbm, ⟨84, _⟩ => ⟨S1x256x128, .i32⟩
  | .hbm, ⟨85, _⟩ => ⟨S1x256x128, .i32⟩
  | .hbm, ⟨86, _⟩ => ⟨S2x256x128, .i32⟩
  | .hbm, ⟨87, _⟩ => ⟨S_, .i32⟩
  | .hbm, ⟨88, _⟩ => ⟨S2x256x128, .i32⟩
  | .hbm, ⟨89, _⟩ => ⟨S2x256x128, .i1⟩
  | .hbm, ⟨90, _⟩ => ⟨S_, .i32⟩
  | .hbm, ⟨91, _⟩ => ⟨S2x256x128, .i32⟩
  | .hbm, ⟨92, _⟩ => ⟨S2x256x128, .i32⟩
  | .hbm, ⟨93, _⟩ => ⟨S2x256x128, .i32⟩
  | .hbm, ⟨94, _⟩ => ⟨S2x256x128x1, .i32⟩
  | .hbm, ⟨95, _⟩ => ⟨S2x256x128x16, .f32⟩
  | .hbm, ⟨96, _⟩ => ⟨S2x16x256x128, .f32⟩
  | .hbm, ⟨97, _⟩ => ⟨S2x1x256x128, .i32⟩
  | .hbm, ⟨98, _⟩ => ⟨S_, .i32⟩
  | .hbm, ⟨99, _⟩ => ⟨S2x1x256x128, .i32⟩
  | .hbm, ⟨100, _⟩ => ⟨S2x1x256x128, .i1⟩
  | .hbm, ⟨101, _⟩ => ⟨S_, .f32⟩
  | .hbm, ⟨102, _⟩ => ⟨S_, .f32⟩
  | .hbm, ⟨103, _⟩ => ⟨S2x16x256x128, .i1⟩
  | .hbm, ⟨104, _⟩ => ⟨S2x16x256x128, .f32⟩
  | .hbm, ⟨105, _⟩ => ⟨S2x16x256x128, .f32⟩
  | .hbm, ⟨106, _⟩ => ⟨S_, .f32⟩
  | .hbm, ⟨107, _⟩ => ⟨S8x4096x1024, .f32⟩
  | .hbm, ⟨108, _⟩ => ⟨S8x4096x1024, .f32⟩
  | .hbm, ⟨109, _⟩ => ⟨S8x4096x64, .f32⟩
  | .hbm, ⟨110, _⟩ => ⟨S8x4096x64, .f32⟩
  | .hbm, ⟨111, _⟩ => ⟨S8x4096x256, .f32⟩
  | .hbm, ⟨112, _⟩ => ⟨S8x4096x64, .f32⟩
  | .hbm, ⟨113, _⟩ => ⟨S8x4096x64, .f32⟩
  | .hbm, ⟨114, _⟩ => ⟨S8x4096x256, .f32⟩
  | .hbm, ⟨115, _⟩ => ⟨S8x4096x1536, .f32⟩
  | .hbm, ⟨116, _⟩ => ⟨S8x4096x1536, .bf16⟩
  | .hbm, ⟨117, _⟩ => ⟨S16, .f32⟩
  | .hbm, ⟨118, _⟩ => ⟨S8x4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x128x512, .bf16⟩
  | .local _ .vmem, ⟨7, _⟩ => ⟨S1x128x512, .bf16⟩
  | .local _ .vmem, ⟨8, _⟩ => ⟨S128x512, .bf16⟩
  | .local _ .vmem, ⟨9, _⟩ => ⟨S1x16x256x128, .f32⟩
  | .local _ .vmem, ⟨10, _⟩ => ⟨S1x16x256x128, .f32⟩
  | .local _ .vmem, ⟨11, _⟩ => ⟨S1x16x256x128, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | .local _ .smem, ⟨0, _⟩ => ⟨S16, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_call1_v0 : Ref sig .tc := ⟨.hbm, 70, rfl⟩
abbrev main_call1_v1 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_call2_v0 : Ref sig .tc := ⟨.hbm, 79, rfl⟩
abbrev main_call2_v1 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_cst_17 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v68 : Ref sig .tc := ⟨.hbm, 105, rfl⟩
abbrev main_cst_18 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x16x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8x4096x1024 : Shape := ⟨3, ![8, 4096, 1024]⟩
abbrev S8x4096x128 : Shape := ⟨3, ![8, 4096, 128]⟩
abbrev S16x1024 : Shape := ⟨2, ![16, 1024]⟩
abbrev S16x128 : Shape := ⟨2, ![16, 128]⟩
abbrev S32x16 : Shape := ⟨2, ![32, 16]⟩
abbrev S1x16 : Shape := ⟨2, ![1, 16]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S8x4112x2x8x64 : Shape := ⟨5, ![8, 4112, 2, 8, 64]⟩
abbrev S1x16x128 : Shape := ⟨3, ![1, 16, 128]⟩
abbrev S8x16x128 : Shape := ⟨3, ![8, 16, 128]⟩
abbrev S8x4112x128 : Shape := ⟨3, ![8, 4112, 128]⟩
abbrev S8x4112x2x64 : Shape := ⟨4, ![8, 4112, 2, 64]⟩
abbrev S16 : Shape := ⟨1, ![16]⟩
abbrev S_ : Shape := ⟨0, ![]⟩
abbrev S8x4224x2x8x64 : Shape := ⟨5, ![8, 4224, 2, 8, 64]⟩
abbrev S8x33x128x2x8x64 : Shape := ⟨6, ![8, 33, 128, 2, 8, 64]⟩
abbrev S8x4352x2x64 : Shape := ⟨4, ![8, 4352, 2, 64]⟩
abbrev S8x34x128x2x64 : Shape := ⟨5, ![8, 34, 128, 2, 64]⟩
abbrev S8x33x128x2x64 : Shape := ⟨5, ![8, 33, 128, 2, 64]⟩
abbrev S8x33x256x2x64 : Shape := ⟨5, ![8, 33, 256, 2, 64]⟩
abbrev S8x2x33x256x128x8 : Shape := ⟨6, ![8, 2, 33, 256, 128, 8]⟩
abbrev S8x2x8x33x128x256 : Shape := ⟨6, ![8, 2, 8, 33, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x1x128x256 : Shape := ⟨5, ![2, 8, 1, 128, 256]⟩
abbrev S33 : Shape := ⟨1, ![33]⟩
abbrev S33x1 : Shape := ⟨2, ![33, 1]⟩
abbrev S33x256 : Shape := ⟨2, ![33, 256]⟩
abbrev S1x128x256 : Shape := ⟨3, ![1, 128, 256]⟩
abbrev S33x1x256 : Shape := ⟨3, ![33, 1, 256]⟩
abbrev S33x128x256 : Shape := ⟨3, ![33, 128, 256]⟩
abbrev S1x2x8x1x128x256 : Shape := ⟨6, ![1, 2, 8, 1, 128, 256]⟩
abbrev S2x8x33x128x256 : Shape := ⟨5, ![2, 8, 33, 128, 256]⟩
abbrev S2x8x1x1x1 : Shape := ⟨5, ![2, 8, 1, 1, 1]⟩
abbrev S8x2x8x33x128 : Shape := ⟨5, ![8, 2, 8, 33, 128]⟩
abbrev S8x2x8x33x128x1 : Shape := ⟨6, ![8, 2, 8, 33, 128, 1]⟩
abbrev S1x2x8x1x1x1 : Shape := ⟨6, ![1, 2, 8, 1, 1, 1]⟩
abbrev S8x33x2x64x8x128 : Shape := ⟨6, ![8, 33, 2, 64, 8, 128]⟩
abbrev S8x4224x1024 : Shape := ⟨3, ![8, 4224, 1024]⟩

abbrev nBuf : Space → Nat
  | .hbm => 166
  | .vmem => 0
  | .smem => 0
  | _ => 0

abbrev hbmTy0_0 (i : Nat) : BufTy := match i % 128 with
  | 0 => ⟨S8x4096x1024, .f32⟩
  | 1 => ⟨S8x4096x128, .f32⟩
  | 2 => ⟨S8x4096x128, .f32⟩
  | 3 => ⟨S16x1024, .f32⟩
  | 4 => ⟨S16x128, .f32⟩
  | 5 => ⟨S16x128, .f32⟩
  | 6 => ⟨S8x4096x1024, .f32⟩
  | 7 => ⟨S32x16, .f32⟩
  | 8 => ⟨S1x16, .f32⟩
  | 9 => ⟨S8x4096x1024, .f32⟩
  | 10 => ⟨S1x16x1024, .f32⟩
  | 11 => ⟨S8x16x1024, .f32⟩
  | 12 => ⟨S8x4112x1024, .f32⟩
  | 13 => ⟨S8x4112x2x8x64, .f32⟩
  | 14 => ⟨S1x16x128, .f32⟩
  | 15 => ⟨S8x16x128, .f32⟩
  | 16 => ⟨S8x4112x128, .f32⟩
  | 17 => ⟨S8x4112x2x64, .f32⟩
  | 18 => ⟨S1x16x128, .f32⟩
  | 19 => ⟨S8x16x128, .f32⟩
  | 20 => ⟨S8x4112x128, .f32⟩
  | 21 => ⟨S8x4112x2x64, .f32⟩
  | 22 => ⟨S16, .f32⟩
  | 23 => ⟨S_, .i32⟩
  | 24 => ⟨S_, .f32⟩
  | 25 => ⟨S8x4224x2x8x64, .f32⟩
  | 26 => ⟨S8x33x128x2x8x64, .f32⟩
  | 27 => ⟨S_, .i32⟩
  | 28 => ⟨S_, .f32⟩
  | 29 => ⟨S8x4352x2x64, .f32⟩
  | 30 => ⟨S8x34x128x2x64, .f32⟩
  | 31 => ⟨S8x33x128x2x64, .f32⟩
  | 32 => ⟨S8x33x128x2x64, .f32⟩
  | 33 => ⟨S8x33x256x2x64, .f32⟩
  | 34 => ⟨S_, .i32⟩
  | 35 => ⟨S_, .f32⟩
  | 36 => ⟨S8x4352x2x64, .f32⟩
  | 37 => ⟨S8x34x128x2x64, .f32⟩
  | 38 => ⟨S8x33x128x2x64, .f32⟩
  | 39 => ⟨S8x33x128x2x64, .f32⟩
  | 40 => ⟨S8x33x256x2x64, .f32⟩
  | 41 => ⟨S8x2x33x256x128x8, .f32⟩
  | 42 => ⟨S8x2x8x33x128x256, .f32⟩
  | 43 => ⟨S_, .f32⟩
  | 44 => ⟨S8x2x8x33x128x256, .f32⟩
  | 45 => ⟨S8x2x8x33x128x256, .f32⟩
  | 46 => ⟨S128, .i32⟩
  | 47 => ⟨S128x1, .i32⟩
  | 48 => ⟨S_, .i32⟩
  | 49 => ⟨S128x1, .i32⟩
  | 50 => ⟨S128x1, .i32⟩
  | 51 => ⟨S256, .i32⟩
  | 52 => ⟨S1x256, .i32⟩
  | 53 => ⟨S128x256, .i32⟩
  | 54 => ⟨S128x256, .i32⟩
  | 55 => ⟨S128x256, .i32⟩
  | 56 => ⟨S_, .i32⟩
  | 57 => ⟨S128x256, .i32⟩
  | 58 => ⟨S128x256, .i1⟩
  | 59 => ⟨S_, .i32⟩
  | 60 => ⟨S128x256, .i32⟩
  | 61 => ⟨S128x256, .i1⟩
  | 62 => ⟨S128x256, .i1⟩
  | 63 => ⟨S_, .i32⟩
  | 64 => ⟨S128x256, .i32⟩
  | 65 => ⟨S128x256, .i32⟩
  | 66 => ⟨S_, .i32⟩
  | 67 => ⟨S128x256, .i32⟩
  | 68 => ⟨S128x256, .i1⟩
  | 69 => ⟨S_, .i32⟩
  | 70 => ⟨S128x256, .i32⟩
  | 71 => ⟨S128x256, .i32⟩
  | 72 => ⟨S128x256, .f32⟩
  | 73 => ⟨S_, .f32⟩
  | 74 => ⟨S128x256, .f32⟩
  | 75 => ⟨S128x256, .f32⟩
  | 76 => ⟨S128x256, .f32⟩
  | 77 => ⟨S_, .f32⟩
  | 78 => ⟨S128x256, .f32⟩
  | 79 => ⟨S128x256, .f32⟩
  | 80 => ⟨S_, .f32⟩
  | 81 => ⟨S128x256, .f32⟩
  | 82 => ⟨S128x256, .f32⟩
  | 83 => ⟨S128x256, .i32⟩
  | 84 => ⟨S_, .i32⟩
  | 85 => ⟨S128x256, .i32⟩
  | 86 => ⟨S128x256, .i32⟩
  | 87 => ⟨S_, .i32⟩
  | 88 => ⟨S128x256, .i32⟩
  | 89 => ⟨S128x256, .i32⟩
  | 90 => ⟨S128x256, .i32⟩
  | 91 => ⟨S_, .i32⟩
  | 92 => ⟨S128x256, .i32⟩
  | 93 => ⟨S128x256, .i1⟩
  | 94 => ⟨S_, .i32⟩
  | 95 => ⟨S128x256, .i32⟩
  | 96 => ⟨S128x256, .i32⟩
  | 97 => ⟨S128x256, .i32⟩
  | 98 => ⟨S128x256x1, .i32⟩
  | 99 => ⟨S128x256x16, .f32⟩
  | 100 => ⟨S16x128x256, .f32⟩
  | 101 => ⟨S2x8x1x128x256, .f32⟩
  | 102 => ⟨S33, .i32⟩
  | 103 => ⟨S33x1, .i32⟩
  | 104 => ⟨S_, .i32⟩
  | 105 => ⟨S33x1, .i32⟩
  | 106 => ⟨S33x1, .i32⟩
  | 107 => ⟨S256, .i32⟩
  | 108 => ⟨S1x256, .i32⟩
  | 109 => ⟨S33x256, .i32⟩
  | 110 => ⟨S33x256, .i32⟩
  | 111 => ⟨S33x256, .i32⟩
  | 112 => ⟨S_, .i32⟩
  | 113 => ⟨S33x256, .i32⟩
  | 114 => ⟨S33x256, .i1⟩
  | 115 => ⟨S1x128x256, .i1⟩
  | 116 => ⟨S33x1x256, .i1⟩
  | 117 => ⟨S33x128x256, .i1⟩
  | 118 => ⟨S33x128x256, .i1⟩
  | 119 => ⟨S33x128x256, .i1⟩
  | 120 => ⟨S1x2x8x1x128x256, .f32⟩
  | 121 => ⟨S8x2x8x33x128x256, .f32⟩
  | 122 => ⟨S8x2x8x33x128x256, .f32⟩
  | 123 => ⟨S_, .f32⟩
  | 124 => ⟨S_, .f32⟩
  | 125 => ⟨S2x8x33x128x256, .i1⟩
  | 126 => ⟨S2x8x33x128x256, .f32⟩
  | 127 => ⟨S8x2x8x33x128x256, .i1⟩
  | _ => ⟨S8x4096x1024, .f32⟩

abbrev hbmTy0_1 (i : Nat) : BufTy := match i % 128 with
  | 0 => ⟨S8x2x8x33x128x256, .f32⟩
  | 1 => ⟨S8x2x8x33x128x256, .f32⟩
  | 2 => ⟨S2x8x1x1x1, .f32⟩
  | 3 => ⟨S_, .f32⟩
  | 4 => ⟨S8x2x8x33x128, .f32⟩
  | 5 => ⟨S8x2x8x33x128x1, .f32⟩
  | 6 => ⟨S1x2x8x1x1x1, .f32⟩
  | 7 => ⟨S8x2x8x33x128x1, .f32⟩
  | 8 => ⟨S8x2x8x33x128x1, .f32⟩
  | 9 => ⟨S8x2x8x33x128x256, .f32⟩
  | 10 => ⟨S8x2x8x33x128x256, .f32⟩
  | 11 => ⟨S8x2x8x33x128x256, .f32⟩
  | 12 => ⟨S_, .f32⟩
  | 13 => ⟨S8x2x8x33x128, .f32⟩
  | 14 => ⟨S8x2x8x33x128x1, .f32⟩
  | 15 => ⟨S1x2x8x1x1x1, .f32⟩
  | 16 => ⟨S8x2x8x33x128x1, .f32⟩
  | 17 => ⟨S8x2x8x33x128x1, .f32⟩
  | 18 => ⟨S8x2x8x33x128x1, .f32⟩
  | 19 => ⟨S8x2x8x33x128x1, .f32⟩
  | 20 => ⟨S8x2x8x33x128x256, .f32⟩
  | 21 => ⟨S8x2x8x33x128x256, .f32⟩
  | 22 => ⟨S8x33x2x64x8x128, .f32⟩
  | 23 => ⟨S8x33x128x2x8x64, .f32⟩
  | 24 => ⟨S8x4224x1024, .f32⟩
  | 25 => ⟨S8x4112x1024, .f32⟩
  | 26 => ⟨S8x4096x1024, .f32⟩
  | 27 => ⟨S8x4096x1024, .f32⟩
  | 28 => ⟨S_, .f32⟩
  | 29 => ⟨S8x4096x1024, .f32⟩
  | 30 => ⟨S8x4096x1024, .f32⟩
  | 31 => ⟨S_, .f32⟩
  | 32 => ⟨S8x4096x1024, .f32⟩
  | 33 => ⟨S8x4096x1024, .f32⟩
  | 34 => ⟨S8x4096x1024, .f32⟩
  | 35 => ⟨S8x4096x1024, .f32⟩
  | 36 => ⟨S8x4096x1024, .f32⟩
  | 37 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_3 : Ref sig .tc := ⟨.hbm, 56, rfl⟩
abbrev main_v38 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_17 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_19 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_20 : Ref sig .tc := ⟨.hbm, 156, rfl⟩
abbrev main_v116 : Ref sig .tc := ⟨.hbm, 157, rfl⟩
abbrev main_v117 : Ref sig .tc := ⟨.hbm, 158, rfl⟩
abbrev main_cst_21 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩
abbrev S8x1024 : Shape := ⟨2, ![8, 1024]⟩
abbrev S32768x1024 : Shape := ⟨2, ![32768, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩

abbrev nBuf : Space → Nat
  | .hbm => 38
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S8x1024, .f32⟩
  | .hbm, ⟨28, _⟩ => ⟨S32768x1024, .f32⟩
  | .hbm, ⟨29, _⟩ => ⟨S32768x1024, .f32⟩
  | .hbm, ⟨30, _⟩ => ⟨S32768x1024, .bf16⟩
  | .hbm, ⟨31, _⟩ => ⟨S1024x1024, .f32⟩
  | .hbm, ⟨32, _⟩ => ⟨S1024x1024, .bf16⟩
  | .hbm, ⟨33, _⟩ => ⟨S1024x4096, .f32⟩
  | .hbm, ⟨34, _⟩ => ⟨S1024x4096, .bf16⟩
  | .hbm, ⟨35, _⟩ => ⟨S4096x1024, .f32⟩
  | .hbm, ⟨36, _⟩ => ⟨S4096x1024, .bf16⟩
  | .hbm, ⟨37, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S8x1024, .f32⟩
  | .local _ .vmem, ⟨5, _⟩ => ⟨S1024x1024, .bf16⟩
  | .local _ .vmem, ⟨6, _⟩ => ⟨S1024x4096, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S1024 : Shape := ⟨1, ![1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1024 : Shape := ⟨2, ![1024, 1024]⟩
abbrev S1024x4096 : Shape := ⟨2, ![1024, 4096]⟩
abbrev S8x4096x4096 : Shape := ⟨3, ![8, 4096, 4096]⟩
abbrev S4096x1024 : Shape := ⟨2, ![4096, 1024]⟩
abbrev S32768x1024 : Shape := ⟨2, ![32768, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S1024x1024, .f32⟩
  | .hbm, ⟨44, _⟩ => ⟨S8x4096x1024, .f32⟩
  | .hbm, ⟨45, _⟩ => ⟨S8x4096x1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S1x1x1024, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S1024x4096, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S4096x1024, .f32⟩
  | .hbm, ⟨84, _⟩ => ⟨S8x4096x1024, .f32⟩
  | .hbm, ⟨85, _⟩ => ⟨S_, .f32⟩
  | .hbm, ⟨86, _⟩ => ⟨S8x4096x1024, .f32⟩
  | .hbm, ⟨87, _⟩ => ⟨S8x4096x1024, .f32⟩
  | .hbm, ⟨88, _⟩ => ⟨S8x4096x1024, .f32⟩
  | .hbm, ⟨89, _⟩ => ⟨S1024, .f32⟩
  | .hbm, ⟨90, _⟩ => ⟨S1024, .f32⟩
  | .hbm, ⟨91, _⟩ => ⟨S_, .f32⟩
  | .hbm, ⟨92, _⟩ => ⟨S8x4096, .f32⟩
  | .hbm, ⟨93, _⟩ => ⟨S8x4096x1, .f32⟩
  | .hbm, ⟨94, _⟩ => ⟨S_, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S8x4096x1024, .f32⟩
  | .hbm, ⟨100, _⟩ => ⟨S_, .f32⟩
  | .hbm, ⟨101, _⟩ => ⟨S8x4096, .f32⟩
  | .hbm, ⟨102, _⟩ => ⟨S8x4096x1, .f32⟩
  | .hbm, ⟨103, _⟩ => ⟨S_, .f32⟩
  | .hbm, ⟨104, _⟩ => ⟨S8x4096x1, .f32⟩
  | .hbm, ⟨105, _⟩ => ⟨S8x4096x1, .f32⟩
  | .hbm, ⟨106, _⟩ => ⟨S8x4096x1024, .f32⟩
  | .hbm, ⟨107, _⟩ => ⟨S8x4096x1024, .f32⟩
  | .hbm, ⟨108, _⟩ => ⟨S_, .f32⟩
  | .hbm, ⟨109, _⟩ => ⟨S8x4096x1, .f32⟩
  | .hbm, ⟨110, _⟩ => ⟨S8x4096x1, .f32⟩
  | .hbm, ⟨111, _⟩ => ⟨S8x4096x1, .f32⟩
  | .hbm, ⟨112, _⟩ => ⟨S8x4096x1024, .f32⟩
  | .hbm, ⟨113, _⟩ => ⟨S8x4096x1024, .f32⟩
  | .hbm, ⟨114, _⟩ => ⟨S1x1x1024, .f32⟩
  | .hbm, ⟨115, _⟩ => ⟨S8x4096x1024, .f32⟩
  | .hbm, ⟨116, _⟩ => ⟨S8x4096x1024, .f32⟩
  | .hbm, ⟨117, _⟩ => ⟨S1x1x1024, .f32⟩
  | .hbm, ⟨118, _⟩ => ⟨S8x4096x1024, .f32⟩
  | .hbm, ⟨119, _⟩ => ⟨S8x4096x1024, .f32⟩
  | .hbm, ⟨120, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call0_cst : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1x1024x6656 : Shape := ⟨3, ![1, 1024, 6656]⟩
abbrev S1x1024 : Shape := ⟨2, ![1, 1024]⟩
abbrev S32768x1024 : Shape := ⟨2, ![32768, 1024]⟩
abbrev S1024x6656 : Shape := ⟨2, ![1024, 6656]⟩
abbrev S32768x1536 : Shape := ⟨2, ![32768, 1536]⟩
abbrev S32768x5376 : Shape := ⟨2, ![32768, 5376]⟩
abbrev S512x1024 : Shape := ⟨2, ![512, 1024]⟩
abbrev S512x1536 : Shape := ⟨2, ![512, 1536]⟩
abbrev S512x5376 : Shape := ⟨2, ![512, 5376]⟩
abbrev S256x1024 : Shape := ⟨2, ![256, 1024]⟩
abbrev S256 : Shape := ⟨1, ![256]⟩
abbrev S256x1 : Shape := ⟨2, ![256, 1]⟩
abbrev S1x128 : Shape := ⟨2, ![1, 128]⟩
abbrev S1024x512 : Shape := ⟨2, ![1024, 512]⟩
abbrev S256x512 : Shape := ⟨2, ![256, 512]⟩
abbrev S1024x256 : Shape := ⟨2, ![1024, 256]⟩
abbrev S512x256 : Shape := ⟨2, ![512, 256]⟩
abbrev S512x128 : Shape := ⟨2, ![512, 128]⟩
abbrev S512x512 : Shape := ⟨2, ![512, 512]⟩

abbrev nBuf : Space → Nat
  | .hbm => 11
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1x1024x6656, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S1024x6656, .f32⟩
  | .hbm, ⟨8, _⟩ => ⟨S1024x6656, .bf16⟩
  | .hbm, ⟨9, _⟩ => ⟨S32768x1536, .bf16⟩
  | .hbm, ⟨10, _⟩ => ⟨S32768x5376, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x6656, .bf16⟩
  | .local _ .vmem, ⟨5, _⟩ => ⟨S512x1536, .bf16⟩
  | .local _ .vmem, ⟨6, _⟩ => ⟨S512x1536, .bf16⟩
  | .local _ .vmem, ⟨7, _⟩ => ⟨S512x5376, .f32⟩
  | .local _ .vmem, ⟨8, _⟩ => ⟨S512x5376, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6656 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x4096x1024 : Shape := ⟨3, ![8, 4096, 1024]⟩
abbrev S1024 : Shape := ⟨1, ![1024]⟩
abbrev S1x1024x6656 : Shape := ⟨3, ![1, 1024, 6656]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x6656 : Shape := ⟨2, ![1024, 6656]⟩
abbrev S8x4096x6656 : Shape := ⟨3, ![8, 4096, 6656]⟩
abbrev S8x4096x128 : Shape := ⟨3, ![8, 4096, 128]⟩
abbrev S8x4096x3328 : Shape := ⟨3, ![8, 4096, 3328]⟩
abbrev S8x4096x2x1x64 : Shape := ⟨5, ![8, 4096, 2, 1, 64]⟩
abbrev S8x4096x2x2x64 : Shape := ⟨5, ![8, 4096, 2, 2, 64]⟩
abbrev S8x4096x256 : Shape := ⟨3, ![8, 4096, 256]⟩
abbrev S8x4096x1536 : Shape := ⟨3, ![8, 4096, 1536]⟩
abbrev S8x4096x5376 : Shape := ⟨3, ![8, 4096, 5376]⟩
abbrev S32768x1536 : Shape := ⟨2, ![32768, 1536]⟩
abbrev S32768x5376 : Shape := ⟨2, ![32768, 5376]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1x1024x6656, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S1024x6656, .f32⟩
  | .hbm, ⟨34, _⟩ => ⟨S8x4096x6656, .f32⟩
  | .hbm, ⟨35, _⟩ => ⟨S8x4096x1024, .f32⟩
  | .hbm, ⟨36, _⟩ => ⟨S8x4096x128, .f32⟩
  | .hbm, ⟨37, _⟩ => ⟨S8x4096x128, .f32⟩
  | .hbm, ⟨38, _⟩ => ⟨S8x4096x3328, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S8x4096x2x1x64, .f32⟩
  | .hbm, ⟨45, _⟩ => ⟨S8x4096x2x2x64, .f32⟩
  | .hbm, ⟨46, _⟩ => ⟨S8x4096x256, .f32⟩
  | .hbm, ⟨47, _⟩ => ⟨S8x4096x2x1x64, .f32⟩
  | .hbm, ⟨48, _⟩ => ⟨S8x4096x2x2x64, .f32⟩
  | .hbm, ⟨49, _⟩ => ⟨S8x4096x256, .f32⟩
  | .hbm, ⟨50, _⟩ => ⟨S8x4096x1536, .f32⟩
  | .hbm, ⟨51, _⟩ => ⟨S8x4096x1536, .bf16⟩
  | .hbm, ⟨52, _⟩ => ⟨S8x4096x5376, .f32⟩
  | .hbm, ⟨53, _⟩ => ⟨S32768x1536, .bf16⟩
  | .hbm, ⟨54, _⟩ => ⟨S32768x5376, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Proof.Att1.lean ====
module

public import proofs.«01_k».proof.Proof.Gen.KernelIdeal
public import Idealize.ShloMosaic.Lib.Pipeline.ValueKit

@[expose] public section

set_option maxRecDepth 16384

noncomputable section

namespace Cert.Att

open Cert.KernelIdeal Cert.KernelIdeal.Gen Idealize.ShloMosaic

/-- The base-two logarithm of `e`, as the kernel names it. -/
def l2e : Ideal .f32 := Named.named (F := Ideal) κ "log2_e" (φ := .f32) 0x3FB8AA3B#32

/-- The lanes of a pair's first head, as a mask over one row. -/
def vlane : IVec S1x128 1 := cmpi .slt (iota .tc S1x128 32 [1] iota_S1x128_d1_w32) (broadcast S1x128 64#32)

/-- The same lanes, as a mask over one column. -/
def vlaneT : IVec S128x1 1 := cmpi .slt (iota .tc S128x1 32 [0] iota_S128x1_d0_w32) (broadcast S128x1 64#32)

/-- A key or value tile: 128 rows of the block before, 128 of this one, one group's columns. -/
def vtail (a b : FVec Ideal S128x256 .bf16) (o : Nat) (h : S256x256.Slices ![0, o] S256x128) : FVec Ideal S256x128 .bf16 :=
  extractStridedSlice S256x128 ![0, o]
    (concatenate S256x256 0 [⟨S128x256, a⟩, ⟨S128x256, b⟩] concatenates_S128x256_S128x256_S256x256_d0) h

/-- A pair's queries, one head's lanes at a time, the two heads stacked. -/
def vq2 (q : Vec Ideal S1x128x128 .bf16) : FVec Ideal S256x128 .bf16 :=
  let t : FVec Ideal S128x128 .bf16 := shapeCast S128x128 q shapeCasts_S1x128x128_S128x128
  let z : FVec Ideal S128x128 .bf16 := broadcast S128x128 (Scalar.ofBits .bf16 0x0000#16)
  let k : IVec S128x128 1 := broadcastTo S128x128 (shapeCast S1x128 vlane shapeCasts_S1x128_S1x128) broadcasts_S1x128_S128x128
  concatenate S256x128 0 [⟨S128x128, select k t z⟩, ⟨S128x128, select k z t⟩] concatenates_S128x128_S128x128_S256x128_d0

/-- A pair's scores, keys by queries. -/
def vlt (k : FVec Ideal S256x128 .bf16) (q : Vec Ideal S1x128x128 .bf16) : FVec Ideal S256x256 .f32 :=
  matmul dot_S256x128_S256x128_S256x256_1_1_0_0_n_n none k (vq2 q) (constant S256x256 .f32 0x00000000#32)

/-- One head's logits in base two. -/
def vlg (lt : FVec Ideal S256x256 .f32) (o : Nat) (h : S256x256.Slices ![0, o] S256x128) (b : Vec Ideal S1x1x256x128 .f32) :
    FVec Ideal S256x128 .f32 :=
  mulf (addf (extractStridedSlice S256x128 ![0, o] lt h) (shapeCast S256x128 b shapeCasts_S1x1x256x128_S256x128)) (broadcast S256x128 l2e)

/-- One head's largest logit per query, the sink included. -/
def vmx (g : FVec Ideal S256x128 .f32) (s : Ideal .f32) : FVec Ideal S1x128 .f32 :=
  maximumf (shapeCast S1x128 (multiReduction .maximumf [0] S128 g 0xFF800000#32 reduces_S256x128_S128 (.inl rfl) rfl) shapeCasts_S128_S1x128)
    (broadcast S1x128 s)

/-- The sink's share of the denominator. -/
def vsx (g : FVec Ideal S256x128 .f32) (s : Ideal .f32) : FVec Ideal S1x128 .f32 := exp2 (subf (broadcast S1x128 s) (vmx g s))

/-- The keys' shares. -/
def vpe (g : FVec Ideal S256x128 .f32) (s : Ideal .f32) : FVec Ideal S256x128 .bf16 :=
  truncf .bf16 (exp2 (subf g (broadcastTo S256x128 (vmx g s) broadcasts_S1x128_S256x128))) bitsLt_bf16_f32

/-- The values turned, over rows of ones that sum the shares. -/
def vxt (v : FVec Ideal S256x128 .bf16) : FVec Ideal S144x256 .bf16 :=
  truncf .bf16 (concatenate S144x256 0 [⟨S128x256, transpose S128x256 [1, 0] (extf .f32 v bitsLt_bf16_f32 : FVec Ideal S256x128 .f32) transposes_S256x128_p1_0_S128x256⟩,
    ⟨S16x256, broadcast S16x256 (Scalar.ofBits (F := Ideal) .f32 0x3F800000#32)⟩] concatenates_S128x256_S16x256_S144x256_d0 : FVec Ideal S144x256 .f32) bitsLt_bf16_f32

/-- Both heads' weighted values and sums. -/
def vot (v : FVec Ideal S256x128 .bf16) (p0 p1 : FVec Ideal S256x128 .bf16) : FVec Ideal S144x256 .f32 :=
  matmul dot_S144x256_S256x256_S144x256_1_0_0_1_n_n none (vxt v)
    (concatenate S256x256 1 [⟨S256x128, p0⟩, ⟨S256x128, p1⟩] concatenates_S256x128_S256x128_S256x256_d1) (constant S144x256 .f32 0x00000000#32)

/-- Both heads' attention, queries by lanes. -/
def vatt (ot : FVec Ideal S144x256 .f32) (s0 s1 : FVec Ideal S1x128 .f32) : FVec Ideal S128x128 .f32 :=
  let one : FVec Ideal S1x128 .f32 := broadcast S1x128 (Scalar.ofBits (F := Ideal) .f32 0x3F800000#32)
  transpose S128x128 [1, 0] (select (broadcastTo S128x128 (shapeCast S128x1 vlaneT shapeCasts_S128x1_S128x1) broadcasts_S128x1_S128x128)
    (mulf (extractStridedSlice S128x128 ![0, 0] ot slices_S144x256_o0_0_S128x128)
      (broadcastTo S128x128 (divf one (addf (extractStridedSlice S1x128 ![128, 0] ot slices_S144x256_o128_0_S1x128) s0)) broadcasts_S1x128_S128x128))
    (mulf (extractStridedSlice S128x128 ![0, 128] ot slices_S144x256_o0_128_S128x128)
      (broadcastTo S128x128 (divf one (addf (extractStridedSlice S1x128 ![128, 128] ot slices_S144x256_o128_128_S1x128) s1)) broadcasts_S1x128_S128x128)))
    transposes_S128x128_p1_0_S128x128

/-- The gate on the attention, and the other branch added. -/
def vfin (a : FVec Ideal S128x128 .f32) (ga rw : Vec Ideal S1x128x128 .f32) : Vec Ideal S1x128x128 .bf16 :=
  let one : FVec Ideal S128x128 .f32 := broadcast S128x128 (Scalar.ofBits (F := Ideal) .f32 0x3F800000#32)
  let z : FVec Ideal S128x128 .f32 := broadcast S128x128 (Scalar.ofBits (F := Ideal) .f32 0x00000000#32)
  shapeCast S1x128x128 (truncf .bf16 (addf (mulf (divf one (addf one (exp (subf z (shapeCast S128x128 ga shapeCasts_S1x128x128_S128x128))))) a)
    (shapeCast S128x128 rw shapeCasts_S1x128x128_S128x128)) bitsLt_bf16_f32 : FVec Ideal S128x128 .bf16) shapeCasts_S128x128_S1x128x128

/-- One pair of heads on one block of queries. -/
def vpair (k v : FVec Ideal S256x128 .bf16) (q : Vec Ideal S1x128x128 .bf16) (ga rw : Vec Ideal S1x128x128 .f32)
    (b0 b1 : Vec Ideal S1x1x256x128 .f32) (s0 s1 : Ideal .f32) : Vec Ideal S1x128x128 .bf16 :=
  let g0 := vlg (vlt k q) 0 slices_S256x256_o0_0_S256x128 b0
  let g1 := vlg (vlt k q) 128 slices_S256x256_o0_128_S256x128 b1
  let t0 := Scalar.mulf s0 l2e
  let t1 := Scalar.mulf s1 l2e
  vfin (vatt (vot v (vpe g0 t0) (vpe g1 t1)) (vsx g0 t0) (vsx g1 t1)) ga rw

end Cert.Att

end
-- ==== Proof.Att2.lean ====
module

public import proofs.«01_k».proof.Proof.Att1

@[expose] public section

set_option maxRecDepth 16384

noncomputable section

namespace Cert.Att

open Cert.KernelIdeal Cert.KernelIdeal.Gen Idealize.ShloMosaic

/-- A lane's mask: whether its number is below 64. -/
theorem lane_mask (d : Fin 128) : IntOp.cmpi CmpIPredicate.slt (BitVec.ofNat 32 d.val) 64#32 = if d.val < 64 then 1#1 else 0#1 := by
  revert d; decide +kernel

/-- A choice by a lane's mask. -/
theorem select_lane (d : Fin 128) (x y : EReal) :
    Scalar.select (IntOp.cmpi CmpIPredicate.slt (BitVec.ofNat 32 d.val) 64#32) x y = if d.val < 64 then x else y := by
  rw [lane_mask]; split <;> rfl

/-- A column of one head's half of a pair of columns of width `n`. -/
def half (n : Nat) (h : Fin 2) (r : Fin n) : Fin (n + n) := ⟨n * h.val + r.val, by have := h.isLt; have := r.isLt; rcases h with ⟨_ | _ | _, h⟩ <;> simp <;> omega⟩

/-- A sum over a pair's lanes with the other head's lanes at zero is the sum over one head's lanes. -/
theorem sum_lane (h : Fin 2) (f g : Fin 128 → EReal) :
    (∑ d : Fin 128, f d * if h = 0 then (if d.val < 64 then g d else 0) else (if d.val < 64 then 0 else g d)) =
      ∑ d : Fin 64, f (half 64 h d) * g (half 64 h d) := by
  have e0 (d : Fin 64) : half 64 0 d = Fin.castAdd 64 d := Fin.ext (by simp [half])
  have e1 (d : Fin 64) : half 64 1 d = Fin.natAdd 64 d := Fin.ext (by simp [half, add_comm])
  have l0 (d : Fin 64) : (Fin.castAdd 64 d).val < 64 := d.isLt
  have l1 (d : Fin 64) : ¬ (Fin.natAdd 64 d).val < 64 := by simp
  refine (Fin.sum_univ_add (a := 64) (b := 64) _).trans ?_
  rcases h with ⟨_ | _ | _, h⟩
  · have z : (⟨0, h⟩ : Fin 2) = 0 := rfl
    simp only [z, e0, l0, l1, if_true, if_false, mul_zero, Finset.sum_const_zero, add_zero]
  · have z : (⟨0 + 1, h⟩ : Fin 2) = 1 := rfl
    have z' : ¬ (1 : Fin 2) = 0 := by decide
    simp only [z, z', e1, l0, l1, if_true, if_false, mul_zero, Finset.sum_const_zero, zero_add]
  · omega

/-- A head's logit in base two: a key against a query, with its bias. -/
def logit (k q : Fin 64 → EReal) (b : EReal) : EReal := (((∑ d : Fin 64, k d * q d : EReal) + b : EReal) * (l2e : EReal) : EReal)

/-- The power of two of an exponent. -/
def xp (x : EReal) : EReal := FloatOps.exp2 (F := Ideal) (φ := .f32) x

/-- One query's attention over 256 keys in base two: logits `g`, sink `s`, values `v`. -/
def headOut (g : Fin 256 → EReal) (s : EReal) (v : Fin 256 → EReal) : EReal :=
  (∑ x, v x * xp (g x - max (Finset.fold max ⊥ g Finset.univ) s)) *
    Ideal.div 1 ((∑ x, xp (g x - max (Finset.fold max ⊥ g Finset.univ) s)) + xp (s - max (Finset.fold max ⊥ g Finset.univ) s))

/-- A pair's queries: one head's lanes and zeros. -/
theorem vq2_apply (q : Vec Ideal S1x128x128 .bf16) (r d : Fin 128) (h : Fin 2) :
    vq2 q (ix2 (half 128 h r) d) = if h = 0 then (if d.val < 64 then q (ix3 0 r d) else 0) else (if d.val < 64 then 0 else q (ix3 0 r d)) := by
  pointwise [vq2, vlane]
  simp only [select_lane]
  rcases h with ⟨_ | _ | _, h⟩
  · simp [half]
  · simp [half]
  · omega

/-- One head's scores in a pair. -/
theorem vlt_apply (k : FVec Ideal S256x128 .bf16) (q : Vec Ideal S1x128x128 .bf16) (s : Fin 256) (r : Fin 128) (h : Fin 2) :
    vlt k q (ix2 s (half 128 h r)) = ∑ d : Fin 64, k (ix2 s (half 64 h d)) * q (ix3 0 r (half 64 h d)) := by
  refine Eq.trans ?_ (sum_lane h (fun d => k (ix2 s d)) (fun d => q (ix3 0 r d)))
  have e (j : Fin 256) : vlt k q (ix2 s j) = ∑ x : Fin 128, k (ix2 s x) * vq2 q (ix2 j x) := by
    pointwise [vlt]
  rw [e]
  exact Finset.sum_congr rfl fun d _ => congrArg (k (ix2 s d) * ·) (vq2_apply q r d h)

/-- One head's logits in a pair. -/
theorem vlg_apply (k : FVec Ideal S256x128 .bf16) (q : Vec Ideal S1x128x128 .bf16) (o : Nat) (ho : S256x256.Slices ![0, o] S256x128)
    (b : Vec Ideal S1x1x256x128 .f32) (h : Fin 2) (hh : o = 128 * h.val) (s : Fin 256) (r : Fin 128) :
    vlg (vlt k q) o ho b (ix2 s r) = logit (fun d => k (ix2 s (half 64 h d))) (fun d => q (ix3 0 r (half 64 h d))) (b (ix4 0 0 s r)) := by
  subst hh
  pointwise [vlg]
  exact congrArg (fun z => (z + _) * l2e) (vlt_apply k q s r h)

/-- The largest logit of a column. -/
theorem vmx_apply (g : FVec Ideal S256x128 .f32) (s : Ideal .f32) (a : Fin 1) (r : Fin 128) :
    vmx g s (ix2 a r) = max (Finset.fold max ⊥ (fun x => g (ix2 x r)) Finset.univ) s := by
  have h : Ideal.ofBits FTy.f32 4286578688#32 = ⊥ := by simp [Ideal.ofBits, Ideal.ieee]
  pointwise [vmx]
  rw [h]

/-- One head's share of a key for a query. -/
theorem vpe_apply (g : FVec Ideal S256x128 .f32) (s : Ideal .f32) (x : Fin 256) (r : Fin 128) :
    vpe g s (ix2 x r) = xp (g (ix2 x r) - max (Finset.fold max ⊥ (fun x => g (ix2 x r)) Finset.univ) s) := by
  rw [← vmx_apply g s 0 r]
  pointwise [vpe]
  rfl

/-- The sink's share for a query. -/
theorem vsx_apply (g : FVec Ideal S256x128 .f32) (s : Ideal .f32) (a : Fin 1) (r : Fin 128) :
    vsx g s (ix2 a r) = xp (s - max (Finset.fold max ⊥ (fun x => g (ix2 x r)) Finset.univ) s) := by
  rw [← vmx_apply g s a r]
  pointwise [vsx]
  rfl

/-- Weighted values (rows below 128) and sums of shares (row 128) of one head. -/
theorem vot_val (v : FVec Ideal S256x128 .bf16) (p : Fin 2 → FVec Ideal S256x128 .bf16) (l : Fin 128) (r : Fin 128) (h : Fin 2) :
    vot v (p 0) (p 1) (ix2 ⟨l.val, by omega⟩ (half 128 h r)) = ∑ x, v (ix2 x l) * p h (ix2 x r) := by
  pointwise [vot, vxt]
  refine Finset.sum_congr rfl fun x _ => ?_
  rcases h with ⟨_ | _ | _, h⟩
  · simp [half]
  · simp [half]
  · omega

/-- The last row of the weighted sums, for head `h` and query `r`, is the sum of the weights. -/
theorem vot_sum (v : FVec Ideal S256x128 .bf16) (p : Fin 2 → FVec Ideal S256x128 .bf16) (r : Fin 128) (h : Fin 2) :
    vot v (p 0) (p 1) (ix2 128 (half 128 h r)) = ∑ x, p h (ix2 x r) := by
  pointwise [vot, vxt]
  refine Finset.sum_congr rfl fun x _ => ?_
  rcases h with ⟨_ | _ | _, h⟩
  · simp [half]
  · simp [half]
  · omega

/-- Lane `l` of the attention's output at row `r`: the weighted sum of the values times the inverse of the weights' sum
plus the sink's weight. -/
theorem vatt_apply (ot : FVec Ideal S144x256 .f32) (s : Fin 2 → FVec Ideal S1x128 .f32) (r l : Fin 128) (h : Fin 2) (hl : l.val / 64 = h.val) :
    vatt ot (s 0) (s 1) (ix2 r l) = ot (ix2 ⟨l.val, by omega⟩ (half 128 h r)) * Ideal.div 1 (ot (ix2 128 (half 128 h r)) + s h (ix2 0 r)) := by
  pointwise [vatt, vlaneT]
  simp only [select_lane]
  rcases h with ⟨_ | _ | _, h⟩
  · have z : (⟨0, h⟩ : Fin 2) = 0 := rfl
    have hr : half 128 0 r = ⟨r.val, by omega⟩ := Fin.ext (by simp [half])
    rw [if_pos (by simp at hl; omega), z, hr]
  · rw [if_neg (by simp at hl; omega)]
    simp [half]
  · omega

/-- The gate and the other branch around one attention value. -/
def gated (g a w : EReal) : EReal := Ideal.div 1 (1 + Ideal.exp (0 - g)) * a + w

/-- One element of a pair's output. -/
theorem vpair_apply (k v : FVec Ideal S256x128 .bf16) (q : Vec Ideal S1x128x128 .bf16) (ga rw : Vec Ideal S1x128x128 .f32)
    (b : Fin 2 → Vec Ideal S1x1x256x128 .f32) (s : Fin 2 → Ideal .f32) (z : Fin 1) (r l : Fin 128) (h : Fin 2) (hl : l.val / 64 = h.val) :
    vpair k v q ga rw (b 0) (b 1) (s 0) (s 1) (ix3 z r l) =
      gated (ga (ix3 0 r l))
        (headOut (fun x => logit (fun d => k (ix2 x (half 64 h d))) (fun d => q (ix3 0 r (half 64 h d))) (b h (ix4 0 0 x r)))
          (s h * l2e) (fun x => v (ix2 x l)))
        (rw (ix3 0 r l)) := by
  unfold vpair
  pointwise [vfin]
  unfold gated
  refine congrArg (fun y => Ideal.div 1 (1 + Ideal.exp (0 - ga (ix3 0 r l))) * y + rw (ix3 0 r l)) ?_
  have hg (h : Fin 2) (x : Fin 256) : (![vlg (vlt k q) 0 slices_S256x256_o0_0_S256x128 (b 0), vlg (vlt k q) 128 slices_S256x256_o0_128_S256x128 (b 1)] h) (ix2 x r) =
      logit (fun d => k (ix2 x (half 64 h d))) (fun d => q (ix3 0 r (half 64 h d))) (b h (ix4 0 0 x r)) := by
    rcases h with ⟨_ | _ | _, h⟩
    · exact vlg_apply k q 0 _ (b 0) 0 rfl x r
    · exact vlg_apply k q 128 _ (b 1) 1 rfl x r
    · omega
  generalize hG : ![vlg (vlt k q) 0 slices_S256x256_o0_0_S256x128 (b 0), vlg (vlt k q) 128 slices_S256x256_o0_128_S256x128 (b 1)] = G at hg
  have e0 : vlg (vlt k q) 0 slices_S256x256_o0_0_S256x128 (b 0) = G 0 := by rw [← hG]; rfl
  have e1 : vlg (vlt k q) 128 slices_S256x256_o0_128_S256x128 (b 1) = G 1 := by rw [← hG]; rfl
  rw [e0, e1]
  refine (vatt_apply _ (fun h => vsx (G h) ((s h * l2e : EReal))) r l h hl).trans ?_
  show vot v (vpe (G 0) (s 0 * l2e : EReal)) (vpe (G 1) (s 1 * l2e : EReal)) (ix2 ⟨l.val, _⟩ (half 128 h r)) * Ideal.div 1 (vot v (vpe (G 0) (s 0 * l2e : EReal)) (vpe (G 1) (s 1 * l2e : EReal)) (ix2 128 (half 128 h r)) + vsx (G h) (s h * l2e : EReal) (ix2 0 r)) = _
  rw [vot_val v (fun h => vpe (G h) ((s h * l2e : EReal))) l r h, vot_sum v (fun h => vpe (G h) ((s h * l2e : EReal))) r h]
  simp only [vpe_apply, vsx_apply, hg]
  rfl

end Cert.Att

end
-- ==== Proof.Att3.lean ====
module

public import proofs.«01_k».proof.Proof.Att2
public import proofs.«01_k».proof.Proof.Gen.KernelIdeal.Frame
public import Idealize.ShloMosaic.Lib.Pipeline.ValueKit

@[expose] public section

set_option maxRecDepth 16384

noncomputable section

namespace Cert.Att

open Cert.KernelIdeal Cert.KernelIdeal.Gen Idealize.ShloMosaic

/-- The block's own keys (`o = 0`) or values (`o = 256`). -/
def vown (x3 : Vec Ideal S1x1024x512 .bf16) (o : Nat) (h : ∀ a, (![0, 0, o] : Fin 3 → Nat) a + S1x1024x256.size a ≤ S1x1024x512.size a) :
    FVec Ideal S1024x256 .bf16 :=
  shapeCast S1024x256 (View.ld (Val := Elt Ideal) (e' := .bf16) x3 (Rect.unit (s := S1x1024x512) ![0, 0, o] S1x1024x256.size h)) shapeCasts_S1x1024x256_S1024x256

/-- The 128 rows before the block: the meta tokens' on the first block, the previous block's last ones after. -/
def vprev (i : grid0.Coords) (x4 : Vec Ideal S1x128x512 .bf16) (x5 : Vec Ideal S128x512 .bf16) : FVec Ideal S128x512 .bf16 :=
  Scalar.select (Scalar.cmpi .eq (BitVec.ofNat 32 (i 1).val) 0#32)
    (shapeCast S128x512 (View.ld (Val := Elt Ideal) (e' := .bf16) x5 (Rect.unit (s := S128x512) ![0, 0] S128x512.size inb_S128x512_S128x512_0_0)) shapeCasts_S128x512_S128x512)
    (shapeCast S128x512 (View.ld (Val := Elt Ideal) (e' := .bf16) x4 (Rect.unit (s := S1x128x512) ![0, 0, 0] S1x128x512.size inb_S1x128x512_S1x128x512_0_0_0)) shapeCasts_S1x128x512_S128x512)

/-- 128 rows of the block's own keys or values, at row `128 * n`. -/
def vrows (w : FVec Ideal S1024x256 .bf16) (n : Nat) (h : S1024x256.Slices ![n * 128, 0] S128x256) : FVec Ideal S128x256 .bf16 :=
  extractStridedSlice S128x256 ![n * 128, 0] w h

/-- Rows of a sub-block are inside the block. -/
theorem vrows_slices (n : Nat) (h : n < 8) : S1024x256.Slices ![n * 128, 0] S128x256 := by
  refine ⟨rfl, fun a => ?_⟩
  fin_cases a <;> simp [S1024x256, S128x256] <;> omega

/-- The rows before sub-block `n`. -/
def vbefore (p : FVec Ideal S128x256 .bf16) (w : FVec Ideal S1024x256 .bf16) : (n : Nat) → n < 8 → FVec Ideal S128x256 .bf16
  | 0, _ => p
  | n + 1, h => vrows w n (vrows_slices n (by omega))

/-- A group's columns are inside the tile. -/
theorem group_slices (g : Nat) (h : g < 2) : S256x256.Slices ![0, g * 128] S256x128 := by
  refine ⟨rfl, fun a => ?_⟩
  fin_cases a <;> simp [S256x256, S256x128] <;> omega

/-- A tile is inside the block. -/
theorem tile_inb (n p : Nat) (hn : n < 8) (hp : p < 8) (a : Fin 3) :
    (![0, n * 128, p * 128] : Fin 3 → Nat) a + S1x128x128.size a ≤ S1x1024x1024.size a := by
  fin_cases a <;> simp [S1x128x128, S1x1024x1024] <;> omega

/-- A head's bias is inside the table. -/
theorem bias_inb (hd : Nat) (h : hd < 16) (a : Fin 4) : (![0, hd, 0, 0] : Fin 4 → Nat) a + S1x1x256x128.size a ≤ S1x16x256x128.size a := by
  fin_cases a <;> simp [S1x1x256x128, S1x16x256x128] <;> omega

/-- A head's sink is inside the array. -/
theorem sink_inb (hd : Nat) (h : hd < 16) (a : Fin 1) : (![hd] : Fin 1 → Nat) a + S1.size a ≤ S16.size a := by
  fin_cases a <;> simp [S1, S16] <;> omega

/-- A pair's part of a block. -/
def tpart {e : EltTy} (x : Vec Ideal S1x1024x1024 e) (n p : Nat) (hn : n < 8) (hp : p < 8) : Vec Ideal S1x128x128 e :=
  View.ld (Val := Elt Ideal) (e' := e) x (Rect.unit (s := S1x1024x1024) ![0, n * 128, p * 128] S1x128x128.size (tile_inb n p hn hp))

/-- A head's bias. -/
def tbias (x : Vec Ideal S1x16x256x128 .f32) (hd : Nat) (h : hd < 16) : Vec Ideal S1x1x256x128 .f32 :=
  View.ld (Val := Elt Ideal) (e' := .f32) x (Rect.unit (s := S1x16x256x128) ![0, hd, 0, 0] S1x1x256x128.size (bias_inb hd h))

/-- A head's sink. -/
def tsink (x : Vec Ideal S16 .f32) (hd : Nat) (h : hd < 16) : Ideal .f32 :=
  View.ld (Val := Elt Ideal) (e' := .f32) x (Rect.unit (s := S16) ![hd] S1.size (sink_inb hd h)) (Shape.Idx.first (numel1_S1.symm ▸ Nat.one_pos))

/-- Keys or values of a sub-block: `o = 0` keys, `o = 256` values. -/
def tkv (i : grid0.Coords) (x3 : Vec Ideal S1x1024x512 .bf16) (x4 : Vec Ideal S1x128x512 .bf16) (x5 : Vec Ideal S128x512 .bf16) (o : Nat)
    (h : ∀ a, (![0, 0, o] : Fin 3 → Nat) a + S1x1024x256.size a ≤ S1x1024x512.size a) (h' : S128x512.Slices ![0, o] S128x256)
    (n p : Nat) (hn : n < 8) (hp : p < 8) : FVec Ideal S256x128 .bf16 :=
  vtail (vbefore (extractStridedSlice S128x256 ![0, o] (vprev i x4 x5) h') (vown x3 o h) n hn) (vrows (vown x3 o h) n (vrows_slices n hn))
    (p / 4 * 128) (group_slices (p / 4) (by omega))

/-- The bias table of a sub-block: the first of a block has its own. -/
def ttab (x6 x7 : Vec Ideal S1x16x256x128 .f32) : Nat → Vec Ideal S1x16x256x128 .f32
  | 0 => x6
  | _ + 1 => x7

/-- Pair `p` of heads on sub-block `n` of the block. -/
def tile (i : grid0.Coords) (x0 : Vec Ideal S16 .f32) (x1 : Vec Ideal S1x1024x1024 .bf16) (x2 : Vec Ideal S1x1024x1024 .f32)
    (x3 : Vec Ideal S1x1024x512 .bf16) (x4 : Vec Ideal S1x128x512 .bf16) (x5 : Vec Ideal S128x512 .bf16)
    (x6 x7 : Vec Ideal S1x16x256x128 .f32) (x8 : Vec Ideal S1x1024x1024 .f32) (n p : Nat) (hn : n < 8) (hp : p < 8) : Vec Ideal S1x128x128 .bf16 :=
  vpair (tkv i x3 x4 x5 0 inb_S1x1024x512_S1x1024x256_0_0_0 slices_S128x512_o0_0_S128x256 n p hn hp)
    (tkv i x3 x4 x5 256 inb_S1x1024x512_S1x1024x256_0_0_256 slices_S128x512_o0_256_S128x256 n p hn hp)
    (tpart x1 n p hn hp) (tpart x2 n p hn hp) (tpart x8 n p hn hp)
    (tbias (ttab x6 x7 n) (2 * p) (by omega)) (tbias (ttab x6 x7 n) (2 * p + 1) (by omega))
    (tsink x0 (2 * p) (by omega)) (tsink x0 (2 * p + 1) (by omega))

/-- A tile's sub-block is one of eight. -/
theorem sub_lt (k : Fin 64) : (63 - k.val) / 8 < 8 := by omega
/-- A tile's pair is one of eight. -/
theorem pair_lt (k : Fin 64) : (63 - k.val) % 8 < 8 := by omega

end Cert.Att

end
-- ==== Proof.Att4.lean ====
module

public import proofs.«01_k».proof.Proof.Att3
public import proofs.«01_k».proof.Proof.Gen.KernelIdeal.Frame
public import Idealize.ShloMosaic.Lib.Pipeline.ValueKit

@[expose] public section

set_option maxRecDepth 16384

noncomputable section

namespace Cert.Att

open Cert.KernelIdeal Cert.KernelIdeal.Gen Idealize.ShloMosaic

/-- A tile with its place in the block. -/
def tpiece (i : grid0.Coords) (x0 : Vec Ideal S16 .f32) (x1 : Vec Ideal S1x1024x1024 .bf16) (x2 : Vec Ideal S1x1024x1024 .f32)
    (x3 : Vec Ideal S1x1024x512 .bf16) (x4 : Vec Ideal S1x128x512 .bf16) (x5 : Vec Ideal S128x512 .bf16)
    (x6 x7 : Vec Ideal S1x16x256x128 .f32) (x8 : Vec Ideal S1x1024x1024 .f32) (n p : Nat) (hn : n < 8) (hp : p < 8) :
    View.Piece (Elt Ideal) S1x1024x1024 .bf16 :=
  ⟨Rect.unit (s := S1x1024x1024) ![0, n * 128, p * 128] S1x128x128.size (tile_inb n p hn hp), tile i x0 x1 x2 x3 x4 x5 x6 x7 x8 n p hn hp⟩

/-- The block's tiles, the last first. -/
def tiles {α : Type} (t : (n p : Nat) → n < 8 → p < 8 → α) : List α :=
    [ t 7 7 (by decide) (by decide), t 7 6 (by decide) (by decide), t 7 5 (by decide) (by decide), t 7 4 (by decide) (by decide), t 7 3 (by decide) (by decide), t 7 2 (by decide) (by decide), t 7 1 (by decide) (by decide), t 7 0 (by decide) (by decide),
      t 6 7 (by decide) (by decide), t 6 6 (by decide) (by decide), t 6 5 (by decide) (by decide), t 6 4 (by decide) (by decide), t 6 3 (by decide) (by decide), t 6 2 (by decide) (by decide), t 6 1 (by decide) (by decide), t 6 0 (by decide) (by decide),
      t 5 7 (by decide) (by decide), t 5 6 (by decide) (by decide), t 5 5 (by decide) (by decide), t 5 4 (by decide) (by decide), t 5 3 (by decide) (by decide), t 5 2 (by decide) (by decide), t 5 1 (by decide) (by decide), t 5 0 (by decide) (by decide),
      t 4 7 (by decide) (by decide), t 4 6 (by decide) (by decide), t 4 5 (by decide) (by decide), t 4 4 (by decide) (by decide), t 4 3 (by decide) (by decide), t 4 2 (by decide) (by decide), t 4 1 (by decide) (by decide), t 4 0 (by decide) (by decide),
      t 3 7 (by decide) (by decide), t 3 6 (by decide) (by decide), t 3 5 (by decide) (by decide), t 3 4 (by decide) (by decide), t 3 3 (by decide) (by decide), t 3 2 (by decide) (by decide), t 3 1 (by decide) (by decide), t 3 0 (by decide) (by decide),
      t 2 7 (by decide) (by decide), t 2 6 (by decide) (by decide), t 2 5 (by decide) (by decide), t 2 4 (by decide) (by decide), t 2 3 (by decide) (by decide), t 2 2 (by decide) (by decide), t 2 1 (by decide) (by decide), t 2 0 (by decide) (by decide),
      t 1 7 (by decide) (by decide), t 1 6 (by decide) (by decide), t 1 5 (by decide) (by decide), t 1 4 (by decide) (by decide), t 1 3 (by decide) (by decide), t 1 2 (by decide) (by decide), t 1 1 (by decide) (by decide), t 1 0 (by decide) (by decide),
      t 0 7 (by decide) (by decide), t 0 6 (by decide) (by decide), t 0 5 (by decide) (by decide), t 0 4 (by decide) (by decide), t 0 3 (by decide) (by decide), t 0 2 (by decide) (by decide), t 0 1 (by decide) (by decide), t 0 0 (by decide) (by decide)]

set_option maxHeartbeats 4000000 in
/-- What a grid point leaves: its 64 tiles, the last first. -/
theorem out_eq (c : Dev nD) (i : grid0.Coords) (arg2 : Memref sig .tc .smem S16 .f32) (harg2 : arg2.IsWhole)
    (arg3 : Memref sig .tc .vmem S1x1024x1024 .bf16) (harg3 : arg3.IsWhole) (arg4 : Memref sig .tc .vmem S1x1024x1024 .f32) (harg4 : arg4.IsWhole)
    (arg5 : Memref sig .tc .vmem S1x1024x512 .bf16) (harg5 : arg5.IsWhole) (arg6 : Memref sig .tc .vmem S1x128x512 .bf16) (harg6 : arg6.IsWhole)
    (arg7 : Memref sig .tc .vmem S128x512 .bf16) (harg7 : arg7.IsWhole) (arg8 : Memref sig .tc .vmem S1x16x256x128 .f32) (harg8 : arg8.IsWhole)
    (arg9 : Memref sig .tc .vmem S1x16x256x128 .f32) (harg9 : arg9.IsWhole) (arg10 : Memref sig .tc .vmem S1x1024x1024 .f32) (harg10 : arg10.IsWhole)
    (arg11 : Memref sig .tc .vmem S1x1024x1024 .bf16) (harg11 : arg11.IsWhole)
    (x0 : Vec Ideal S16 .f32) (x1 : Vec Ideal S1x1024x1024 .bf16) (x2 : Vec Ideal S1x1024x1024 .f32)
    (x3 : Vec Ideal S1x1024x512 .bf16) (x4 : Vec Ideal S1x128x512 .bf16) (x5 : Vec Ideal S128x512 .bf16)
    (x6 x7 : Vec Ideal S1x16x256x128 .f32) (x8 : Vec Ideal S1x1024x1024 .f32) :
    out0_A_9 (F := Ideal) c i arg2 harg2 arg3 harg3 arg4 harg4 arg5 harg5 arg6 harg6 arg7 harg7 arg8 harg8 arg9 harg9 arg10 harg10 arg11 harg11
      x0 x1 x2 x3 x4 x5 x6 x7 x8 =
    View.canon (Val := Elt Ideal) (e := .bf16) (tiles (tpiece i x0 x1 x2 x3 x4 x5 x6 x7 x8)) := by
  refine Eq.trans (b := View.canon (Val := Elt Ideal) (e := .bf16) (tiles (tpiece i (View.read (Elt Ideal) arg2.view (harg2.unread x0)) (View.read (Elt Ideal) arg3.view (harg3.unread x1)) (View.read (Elt Ideal) arg4.view (harg4.unread x2)) (View.read (Elt Ideal) arg5.view (harg5.unread x3)) (View.read (Elt Ideal) arg6.view (harg6.unread x4)) (View.read (Elt Ideal) arg7.view (harg7.unread x5)) (View.read (Elt Ideal) arg8.view (harg8.unread x6)) (View.read (Elt Ideal) arg9.view (harg9.unread x7)) (View.read (Elt Ideal) arg10.view (harg10.unread x8))))) ?_ ?_
  · unfold out0_A_9
    rw [View.read_writes_junk_eq_canon]
    refine congrArg (View.canon (Val := Elt Ideal) (e := .bf16)) ?_
    unfold kernelRun0_A tiles
    repeat' (refine congrArg₂ List.cons ?_ ?_)
    all_goals rfl
  · simp only [Memref.IsWhole.read_unread]

end Cert.Att

end
-- ==== Proof.Bucket.lean ====
module

public import Idealize.ShloMosaic.PureOps.Ideal
public import Idealize.ShloMosaic.PureOps.Vector

@[expose] public section

noncomputable section

namespace Cert.Att

open Idealize.ShloMosaic

/-- The distance from a key to a query, both by their places in a window. -/
def dist (r : Fin 128) (s : Fin 256) : BitVec 32 := IntOp.subi (IntOp.addi (BitVec.ofNat 32 r.val) 128#32) (BitVec.ofNat 32 s.val)

/-- Whether a key is in a query's window. -/
def inwin (r : Fin 128) (s : Fin 256) : BitVec 1 := IntOp.andi (IntOp.cmpi .sge (dist r s) 0#32) (IntOp.cmpi .slt (dist r s) 128#32)

/-- The logarithmic bucket of a distance. -/
def large (d : BitVec 32) : BitVec 32 :=
  IntOp.minsi (IntOp.addi 16#32 (FloatOps.fptosi (F := Ideal) (φ := .f32) 32
    (Ideal.div (Ideal.log (Ideal.div (FloatOps.sitofp (F := Ideal) FTy.f32 (IntOp.maxsi d 1#32)) (Ideal.ofBits FTy.f32 1098907648#32)))
      (Ideal.ofBits FTy.f32 1074075026#32) * Ideal.ofBits FTy.f32 1098907648#32))) 31#32

/-- The bucket of a distance. -/
def bucket (d : BitVec 32) : BitVec 32 :=
  Scalar.select (IntOp.cmpi .slt (IntOp.maxsi d 0#32) 16#32) (IntOp.maxsi d 0#32) (large (IntOp.maxsi d 0#32))

/-- The number of exact buckets, as a constant. -/
theorem const_16 : Ideal.ofBits FTy.f32 1098907648#32 = ((16 : ℝ) : EReal) := by
  simp [Ideal.ofBits, Ideal.ieee]
  rw [← EReal.coe_mul]
  norm_num

/-- The logarithm of the number of octaves, rounded, is at least one. -/
theorem const_log : ∃ L : ℝ, 1 ≤ L ∧ Ideal.ofBits FTy.f32 1074075026#32 = (L : EReal) := by
  refine ⟨_, ?_, by simp [Ideal.ofBits, Ideal.ieee]; rw [← EReal.coe_mul]⟩
  norm_num

/-- A signed comparison, by the integers. -/
theorem slt_true (x y : BitVec 32) : IntOp.cmpi .slt x y = 1#1 ↔ x.toInt < y.toInt := by
  show BitVec.ofBool (x.slt y) = 1#1 ↔ _
  rw [← BitVec.slt_iff_toInt_lt]
  cases x.slt y <;> simp

/-- A signed comparison that fails, by the integers. -/
theorem slt_false (x y : BitVec 32) (h : y.toInt ≤ x.toInt) : IntOp.cmpi .slt x y = 0#1 := by
  show BitVec.ofBool (x.slt y) = 0#1
  have : ¬ x.slt y = true := by rw [BitVec.slt_iff_toInt_lt]; omega
  cases hb : x.slt y
  · rfl
  · exact absurd hb this

/-- A distance of at least 16 and at most 255 has a bucket that is not negative. -/
theorem large_nonneg (d : BitVec 32) (h1 : 16 ≤ d.toInt) (h2 : d.toInt ≤ 255) : 0 ≤ (large d).toInt := by
  have z1 : (1#32 : BitVec 32).toInt = 1 := by decide
  have z16 : (16#32 : BitVec 32).toInt = 16 := by decide
  have z31 : (31#32 : BitVec 32).toInt = 31 := by decide
  have hm : IntOp.maxsi d 1#32 = d := by
    unfold IntOp.maxsi
    rw [if_pos]
    rw [BitVec.slt_iff_toInt_lt]
    omega
  obtain ⟨L, hL, eL⟩ := const_log
  have hs : FloatOps.sitofp (F := Ideal) FTy.f32 d = (((d.toInt : ℝ)) : EReal) := rfl
  have hd : (16 : ℝ) ≤ (d.toInt : ℝ) := by exact_mod_cast h1
  have hd' : (d.toInt : ℝ) ≤ 255 := by exact_mod_cast h2
  have hL0 : L ≠ 0 := by linarith
  have hx : ∃ x : ℝ, 0 ≤ x ∧ x ≤ 255 ∧ Ideal.div (Ideal.log (Ideal.div (((d.toInt : ℝ)) : EReal) ((16 : ℝ) : EReal))) (L : EReal) * ((16 : ℝ) : EReal) = (x : EReal) := by
    rw [Ideal.div_coe (by norm_num : (16 : ℝ) ≠ 0), ← EReal.coe_mul, Ideal.log_coe, if_neg (by linarith), Ideal.div_coe hL0, ← EReal.coe_mul, ← EReal.coe_mul]
    have hlog : 0 ≤ Real.log ((d.toInt : ℝ) * (1 / 16)) := Real.log_nonneg (by linarith)
    have hlog' : Real.log ((d.toInt : ℝ) * (1 / 16)) ≤ 239 / 16 := (Real.log_le_sub_one_of_pos (by linarith)).trans (by linarith)
    have hi : 0 ≤ 1 / L := by positivity
    have hi' : 1 / L ≤ 1 := by rw [div_le_one (by linarith)]; exact hL
    refine ⟨_, by positivity, ?_, rfl⟩
    have := mul_le_mul hlog' hi' hi (by norm_num)
    linarith
  obtain ⟨x, hx0, hx1, ex⟩ := hx
  unfold large
  rw [hm, hs, const_16, eL, ex]
  have hf : (FloatOps.fptosi (F := Ideal) (φ := .f32) 32 (x : EReal)) = BitVec.ofInt 32 ⌊x⌋ := by
    show BitVec.ofInt 32 (max _ (min _ (if 0 ≤ x then ⌊x⌋ else ⌈x⌉))) = _
    rw [if_pos hx0]
    congr 1
    have a : 0 ≤ ⌊x⌋ := Int.floor_nonneg.mpr hx0
    have b : ⌊x⌋ ≤ 255 := Int.floor_le_iff.mpr (by push_cast; linarith)
    norm_num
    omega
  rw [hf]
  have a : 0 ≤ ⌊x⌋ := Int.floor_nonneg.mpr hx0
  have b : ⌊x⌋ ≤ 255 := Int.floor_le_iff.mpr (by push_cast; linarith)
  generalize ⌊x⌋ = n at a b
  have hi : (BitVec.ofInt 32 n).toInt = n := by
    rw [BitVec.toInt_ofInt, Int.bmod_def]
    omega
  have hsum : (IntOp.addi 16#32 (BitVec.ofInt 32 n)).toInt = 16 + n := by
    show (16#32 + BitVec.ofInt 32 n).toInt = _
    rw [BitVec.toInt_add, hi, z16, Int.bmod_def]
    omega
  unfold IntOp.minsi
  split
  · omega
  · omega

/-- No bucket of a distance of at most 255 is negative. -/
theorem bucket_nonneg (d : BitVec 32) (h : d.toInt ≤ 255) : IntOp.cmpi .slt (bucket d) 0#32 = 0#1 := by
  have z0 : (0#32 : BitVec 32).toInt = 0 := by decide
  have z16 : (16#32 : BitVec 32).toInt = 16 := by decide
  have h0 : 0 ≤ (IntOp.maxsi d 0#32).toInt ∧ (IntOp.maxsi d 0#32).toInt ≤ 255 := by
    unfold IntOp.maxsi
    split
    · next h => rw [BitVec.slt_iff_toInt_lt] at h; omega
    · next h => rw [BitVec.slt_iff_toInt_lt] at h; omega
  refine slt_false _ _ ?_
  rw [z0]
  unfold bucket Scalar.select
  split
  · exact h0.1
  · next hc =>
    refine large_nonneg _ ?_ h0.2
    by_contra hlt
    refine hc ((slt_true _ _).mpr ?_)
    omega

/-- A distance is at most 255. -/
theorem dist_le (r : Fin 128) (s : Fin 256) : (dist r s).toInt ≤ 255 := by
  have := r.isLt; have := s.isLt
  show (BitVec.ofNat 32 r.val + 128#32 - BitVec.ofNat 32 s.val).toInt ≤ 255
  have e1 : (BitVec.ofNat 32 r.val).toInt = r.val := by rw [BitVec.toInt_eq_toNat_bmod, BitVec.toNat_ofNat, Int.bmod_def]; omega
  have e2 : (BitVec.ofNat 32 s.val).toInt = s.val := by rw [BitVec.toInt_eq_toNat_bmod, BitVec.toNat_ofNat, Int.bmod_def]; omega
  have e3 : (128#32 : BitVec 32).toInt = 128 := by decide
  rw [BitVec.toInt_sub, BitVec.toInt_add, e1, e2, e3]
  simp only [Int.bmod_def]
  omega

end Cert.Att

end
-- ==== Proof.Att5.lean ====
module

public import proofs.«01_k».proof.Proof.Att3
public import proofs.«01_k».proof.Proof.Bucket
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- The queries the launch finds: the first argument times one eighth. -/
theorem V_q (b : Fin 8) (t : Fin 4096) (j : Fin 1024) : V m c main_v78 (ix3 b t ⟨j.val, by omega⟩) =
    (show EReal from m ((c : Thread nD τ).loc main_arg0) (ix3 b t j)) * Ideal.ofBits .f32 0x3E000000#32 := by
  unfold V
  after_reads_at
  after_reads_at

set_option maxHeartbeats 2000000 in
/-- The keys the launch finds: each key-value head twice. -/
theorem V_k (b : Fin 8) (t : Fin 4096) (g h : Fin 2) (d : Fin 64) : V m c main_v78 (ix3 b t ⟨1024 + (128 * g.val + (64 * h.val + d.val)), by omega⟩) =
    m ((c : Thread nD τ).loc main_arg1) (ix3 b t ⟨64 * g.val + d.val, by omega⟩) := by
  unfold V
  after_reads_at
  rw [dif_pos (by omega)]
  after_reads_at
  have hd := d.isLt
  rcases g with ⟨_ | _ | _, hg⟩ <;> rcases h with ⟨_ | _ | _, hh⟩ <;> (try omega) <;>
    simp only [Nat.mul_zero, Nat.mul_one, Nat.zero_add] at *
  · rw [dif_pos (by omega)]
    after_reads_at
  · rw [dif_neg (by omega), dif_pos (by omega)]
    after_reads_at
  · rw [dif_neg (by omega), dif_neg (by omega), dif_pos (by omega)]
    after_reads_at
    exact congrArg (fun z => m ((c : Thread nD τ).loc main_arg1) (ix3 b t z)) (Fin.ext (by dsimp only; omega))
  · rw [dif_neg (by omega), dif_neg (by omega), dif_neg (by omega)]
    after_reads_at
    exact congrArg (fun z => m ((c : Thread nD τ).loc main_arg1) (ix3 b t z)) (Fin.ext (by dsimp only; omega))

set_option maxHeartbeats 2000000 in
/-- The values the launch finds: each key-value head twice. -/
theorem V_v (b : Fin 8) (t : Fin 4096) (g h : Fin 2) (d : Fin 64) : V m c main_v78 (ix3 b t ⟨1024 + (256 + (128 * g.val + (64 * h.val + d.val))), by omega⟩) =
    m ((c : Thread nD τ).loc main_arg2) (ix3 b t ⟨64 * g.val + d.val, by omega⟩) := by
  unfold V
  after_reads_at
  after_reads_at
  have hd := d.isLt
  rcases g with ⟨_ | _ | _, hg⟩ <;> rcases h with ⟨_ | _ | _, hh⟩ <;> (try omega) <;>
    simp only [Nat.mul_zero, Nat.mul_one, Nat.zero_add] at *
  · rw [dif_pos (by omega)]
    after_reads_at
  · rw [dif_neg (by omega), dif_pos (by omega)]
    after_reads_at
  · rw [dif_neg (by omega), dif_neg (by omega), dif_pos (by omega)]
    after_reads_at
    exact congrArg (fun z => m ((c : Thread nD τ).loc main_arg2) (ix3 b t z)) (Fin.ext (by dsimp only; omega))
  · rw [dif_neg (by omega), dif_neg (by omega), dif_neg (by omega)]
    after_reads_at
    exact congrArg (fun z => m ((c : Thread nD τ).loc main_arg2) (ix3 b t z)) (Fin.ext (by dsimp only; omega))

/-- Rows before the meta tokens are zero. -/
theorem V_pad (x : Fin 128) (hx : x.val < 112) (j : Fin 1536) : V m c main_v11 (ix2 x j) = (0 : EReal) := by
  unfold V
  after_reads_at
  rw [dif_pos (by omega)]

set_option maxHeartbeats 2000000 in
/-- The meta tokens' keys. -/
theorem V_mk (x : Fin 128) (hx : 112 ≤ x.val) (g h : Fin 2) (d : Fin 64) : V m c main_v11 (ix2 x ⟨1024 + (128 * g.val + (64 * h.val + d.val)), by omega⟩) =
    m ((c : Thread nD τ).loc main_arg4) (ix2 ⟨x.val - 112, by omega⟩ ⟨64 * g.val + d.val, by omega⟩) := by
  unfold V
  after_reads_at
  rw [dif_neg (by omega)]
  rw [dif_pos (by omega)]
  after_reads_at
  have hd := d.isLt
  rcases g with ⟨_ | _ | _, hg⟩ <;> rcases h with ⟨_ | _ | _, hh⟩ <;> (try omega) <;>
    simp only [Nat.mul_zero, Nat.mul_one, Nat.zero_add] at *
  · rw [dif_pos (by omega)]
    after_reads_at
  · rw [dif_neg (by omega), dif_pos (by omega)]
    after_reads_at
  · rw [dif_neg (by omega), dif_neg (by omega), dif_pos (by omega)]
    after_reads_at
    exact congrArg (fun z => m ((c : Thread nD τ).loc main_arg4) (ix2 ⟨x.val - 112, by omega⟩ z)) (Fin.ext (by dsimp only; omega))
  · rw [dif_neg (by omega), dif_neg (by omega), dif_neg (by omega)]
    after_reads_at
    exact congrArg (fun z => m ((c : Thread nD τ).loc main_arg4) (ix2 ⟨x.val - 112, by omega⟩ z)) (Fin.ext (by dsimp only; omega))

set_option maxHeartbeats 2000000 in
/-- The meta tokens' values. -/
theorem V_mv (x : Fin 128) (hx : 112 ≤ x.val) (g h : Fin 2) (d : Fin 64) : V m c main_v11 (ix2 x ⟨1024 + (256 + (128 * g.val + (64 * h.val + d.val))), by omega⟩) =
    m ((c : Thread nD τ).loc main_arg5) (ix2 ⟨x.val - 112, by omega⟩ ⟨64 * g.val + d.val, by omega⟩) := by
  unfold V
  after_reads_at
  rw [dif_neg (by omega)]
  after_reads_at
  have hd := d.isLt
  rcases g with ⟨_ | _ | _, hg⟩ <;> rcases h with ⟨_ | _ | _, hh⟩ <;> (try omega) <;>
    simp only [Nat.mul_zero, Nat.mul_one, Nat.zero_add] at *
  · rw [dif_pos (by omega)]
    after_reads_at
  · rw [dif_neg (by omega), dif_pos (by omega)]
    after_reads_at
  · rw [dif_neg (by omega), dif_neg (by omega), dif_pos (by omega)]
    after_reads_at
    exact congrArg (fun z => m ((c : Thread nD τ).loc main_arg5) (ix2 ⟨x.val - 112, by omega⟩ z)) (Fin.ext (by dsimp only; omega))
  · rw [dif_neg (by omega), dif_neg (by omega), dif_neg (by omega)]
    after_reads_at
    exact congrArg (fun z => m ((c : Thread nD τ).loc main_arg5) (ix2 ⟨x.val - 112, by omega⟩ z)) (Fin.ext (by dsimp only; omega))

/-- The sinks the launch finds. -/
theorem V_sink (h : Fin 16) : V m c main_v79 (ix1 h) = m ((c : Thread nD τ).loc main_arg8) (ix2 0 h) := by
  unfold V
  after_reads_at

end Cert.Att

end
-- ==== Proof.Att6.lean ====
module

public import proofs.«01_k».proof.Proof.Att4
public import proofs.«01_k».proof.Proof.Att5

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- The block's own keys or values. -/
theorem vown_apply (x3 : Vec Ideal S1x1024x512 .bf16) (o : Nat) (h) (y : Fin 1024) (w : Fin 256) (ho : o + 256 ≤ 512) :
    vown x3 o h (ix2 y w) = x3 (ix3 0 y ⟨o + w.val, by omega⟩) := by
  unfold vown
  refine (shapeCast_apply _ _ (ix2 y w) (ix3 0 y w) (by rw [Shape.rowMajor_val_two, Shape.rowMajor_val_three]; show (0 * 1024 + y.val) * 256 + w.val = y.val * 256 + w.val; omega)).trans ?_
  refine congrArg x3 ?_
  funext a
  refine Fin.ext ?_
  refine (Rect.idx_unit_val ..).trans ?_
  fin_cases a
  · show 0 + 0 = 0
    rfl
  · show 0 + y.val = y.val
    omega
  · rfl

/-- Rows of the block's own keys or values. -/
theorem vrows_apply (x : FVec Ideal S1024x256 .bf16) (n : Nat) (hn : n < 8) (h) (y : Fin 128) (w : Fin 256) :
    vrows x n h (ix2 y w) = x (ix2 ⟨n * 128 + y.val, by omega⟩ w) := by
  pointwise [vrows]

/-- The choice of the first block's rows. -/
theorem select_first (n : Nat) (h : n < 4) (x y : EReal) : Scalar.select (Scalar.cmpi .eq (BitVec.ofNat 32 n) 0#32) x y = if n = 0 then x else y := by
  rcases n with _ | _ | _ | _ | n
  · rfl
  · rfl
  · rfl
  · rfl
  · omega

set_option maxHeartbeats 2000000 in
/-- The rows before the block. -/
theorem vprev_apply (i : grid0.Coords) (x4 : Vec Ideal S1x128x512 .bf16) (x5 : Vec Ideal S128x512 .bf16) (o : Nat) (h' : S128x512.Slices ![0, o] S128x256)
    (y : Fin 128) (w : Fin 256) (ho : o + 256 ≤ 512) :
    extractStridedSlice S128x256 ![0, o] (vprev i x4 x5) h' (ix2 y w) =
      if (i 1).val = 0 then x5 (ix2 y ⟨o + w.val, by omega⟩) else x4 (ix3 0 y ⟨o + w.val, by omega⟩) := by
  have hi := (i 1).isLt
  pointwise [vprev]
  exact select_first _ hi _ _

/-- Where the windows' blocks lie. -/
theorem widx (t : Fin cfg0.N) : win0_0.index t = ![0] ∧ win0_1.index t = ![t.val / 4, t.val % 4, 0] ∧ win0_2.index t = ![t.val / 4, t.val % 4, 0]
    ∧ win0_3.index t = ![t.val / 4, t.val % 4, 2] ∧ win0_4.index t = ![t.val / 4, 8 * (t.val % 4) - 1, 2] ∧ win0_5.index t = ![0, 2]
    ∧ win0_6.index t = ![min (t.val % 4) 1, 0, 0, 0] ∧ win0_7.index t = ![1, 0, 0, 0] ∧ win0_8.index t = ![t.val / 4, t.val % 4, 0]
    ∧ win0_9.index t = ![t.val / 4, t.val % 4, 0] := by
  revert t; decide +kernel

/-- Which block of a sequence a step works on. -/
theorem coord1 (t : Fin cfg0.N) : (grid0.coords t 1).val = t.val % 4 := by
  revert t; decide +kernel

set_option maxHeartbeats 1000000

/-- The block's own keys and values. -/
theorem rd_3 (A : FVec Ideal S8x4096x1536 .bf16) (t : Fin cfg0.N) (y : Fin 1024) (w : Fin 512) (b : Fin 8) (hb : b.val = t.val / 4) (u : Fin 4096) (hu : u.val = t.val % 4 * 1024 + y.val) (v : Fin 1536) (hv : v.val = 1024 + w.val) :
    ((cfg0.win 3).blk t).view.read (Elt Ideal) A (ix3 0 y w) = A (ix3 b u v) := by
  refine congrArg A ?_
  blk_ext [widx t]
/-- The block's own keys and values. -/
theorem blk_3 (t : Fin cfg0.N) (y : Fin 1024) (w : Fin 512) (b : Fin 8) (hb : b.val = t.val / 4) (u : Fin 4096) (hu : u.val = t.val % 4 * 1024 + y.val) (v : Fin 1536) (hv : v.val = 1024 + w.val) :
    iblk m c 3 t (ix3 0 y w) = V m c main_v78 (ix3 b u v) :=
  rd_3 (V m c main_v78) t y w b hb u hu v hv
/-- The keys and values before the block. -/
theorem rd_4 (A : FVec Ideal S8x4096x1536 .bf16) (t : Fin cfg0.N) (y : Fin 128) (w : Fin 512) (b : Fin 8) (hb : b.val = t.val / 4) (u : Fin 4096) (hu : u.val = (8 * (t.val % 4) - 1) * 128 + y.val) (v : Fin 1536) (hv : v.val = 1024 + w.val) :
    ((cfg0.win 4).blk t).view.read (Elt Ideal) A (ix3 0 y w) = A (ix3 b u v) := by
  refine congrArg A ?_
  blk_ext [widx t]
/-- The keys and values before the block. -/
theorem blk_4 (t : Fin cfg0.N) (y : Fin 128) (w : Fin 512) (b : Fin 8) (hb : b.val = t.val / 4) (u : Fin 4096) (hu : u.val = (8 * (t.val % 4) - 1) * 128 + y.val) (v : Fin 1536) (hv : v.val = 1024 + w.val) :
    iblk m c 4 t (ix3 0 y w) = V m c main_v78 (ix3 b u v) :=
  rd_4 (V m c main_v78) t y w b hb u hu v hv
/-- The meta tokens' keys and values. -/
theorem rd_5 (A : FVec Ideal S128x1536 .bf16) (t : Fin cfg0.N) (y : Fin 128) (w : Fin 512) (v : Fin 1536) (hv : v.val = 1024 + w.val) :
    ((cfg0.win 5).blk t).view.read (Elt Ideal) A (ix2 y w) = A (ix2 y v) := by
  refine congrArg A ?_
  blk_ext [widx t]
/-- The meta tokens' keys and values. -/
theorem blk_5 (t : Fin cfg0.N) (y : Fin 128) (w : Fin 512) (v : Fin 1536) (hv : v.val = 1024 + w.val) :
    iblk m c 5 t (ix2 y w) = V m c main_v11 (ix2 y v) :=
  rd_5 (V m c main_v11) t y w v hv
/-- The first sub-block's bias. -/
theorem rd_6 (A : FVec Ideal S2x16x256x128 .f32) (t : Fin cfg0.N) (h : Fin 16) (s : Fin 256) (r : Fin 128) (a : Fin 2) (ha : a.val = min (t.val % 4) 1) :
    ((cfg0.win 6).blk t).view.read (Elt Ideal) A (ix4 0 h s r) = A (ix4 a h s r) := by
  refine congrArg A ?_
  blk_ext [widx t]
/-- The first sub-block's bias. -/
theorem blk_6 (t : Fin cfg0.N) (h : Fin 16) (s : Fin 256) (r : Fin 128) (a : Fin 2) (ha : a.val = min (t.val % 4) 1) :
    iblk m c 6 t (ix4 0 h s r) = V m c main_v68 (ix4 a h s r) :=
  rd_6 (V m c main_v68) t h s r a ha
/-- The later sub-blocks' bias. -/
theorem rd_7 (A : FVec Ideal S2x16x256x128 .f32) (t : Fin cfg0.N) (h : Fin 16) (s : Fin 256) (r : Fin 128) :
    ((cfg0.win 7).blk t).view.read (Elt Ideal) A (ix4 0 h s r) = A (ix4 1 h s r) := by
  refine congrArg A ?_
  blk_ext [widx t]
/-- The later sub-blocks' bias. -/
theorem blk_7 (t : Fin cfg0.N) (h : Fin 16) (s : Fin 256) (r : Fin 128) :
    iblk m c 7 t (ix4 0 h s r) = V m c main_v68 (ix4 1 h s r) :=
  rd_7 (V m c main_v68) t h s r
/-- The sinks. -/
theorem rd_0 (A : FVec Ideal S16 .f32) (t : Fin cfg0.N) (h : Fin 16) :
    ((cfg0.win 0).blk t).view.read (Elt Ideal) A (ix1 h) = A (ix1 h) := by
  refine congrArg A ?_
  blk_ext [widx t]
/-- The sinks. -/
theorem blk_0 (t : Fin cfg0.N) (h : Fin 16) :
    iblk m c 0 t (ix1 h) = V m c main_v79 (ix1 h) :=
  rd_0 (V m c main_v79) t h
/-- The gate's block. -/
theorem rd_2 (A : FVec Ideal S8x4096x1024 .f32) (t : Fin cfg0.N) (y : Fin 1024) (w : Fin 1024) (b : Fin 8) (hb : b.val = t.val / 4) (u : Fin 4096) (hu : u.val = t.val % 4 * 1024 + y.val) :
    ((cfg0.win 2).blk t).view.read (Elt Ideal) A (ix3 0 y w) = A (ix3 b u w) := by
  refine congrArg A ?_
  blk_ext [widx t]
/-- The gate's block. -/
theorem blk_2 (t : Fin cfg0.N) (y : Fin 1024) (w : Fin 1024) (b : Fin 8) (hb : b.val = t.val / 4) (u : Fin 4096) (hu : u.val = t.val % 4 * 1024 + y.val) :
    iblk m c 2 t (ix3 0 y w) = V m c main_arg6 (ix3 b u w) :=
  rd_2 (V m c main_arg6) t y w b hb u hu
/-- The other path's block. -/
theorem rd_8 (A : FVec Ideal S8x4096x1024 .f32) (t : Fin cfg0.N) (y : Fin 1024) (w : Fin 1024) (b : Fin 8) (hb : b.val = t.val / 4) (u : Fin 4096) (hu : u.val = t.val % 4 * 1024 + y.val) :
    ((cfg0.win 8).blk t).view.read (Elt Ideal) A (ix3 0 y w) = A (ix3 b u w) := by
  refine congrArg A ?_
  blk_ext [widx t]
/-- The other path's block. -/
theorem blk_8 (t : Fin cfg0.N) (y : Fin 1024) (w : Fin 1024) (b : Fin 8) (hb : b.val = t.val / 4) (u : Fin 4096) (hu : u.val = t.val % 4 * 1024 + y.val) :
    iblk m c 8 t (ix3 0 y w) = V m c main_arg9 (ix3 b u w) :=
  rd_8 (V m c main_arg9) t y w b hb u hu
/-- The queries' block. -/
theorem rd_1 (A : FVec Ideal S8x4096x1536 .bf16) (d : (cfg0.win 1).block.Idx → Elt Ideal (cfg0.win 1).elt) (t : Fin cfg0.N) (y : Fin 1024) (w : Fin 1024) (b : Fin 8) (hb : b.val = t.val / 4) (u : Fin 4096) (hu : u.val = t.val % 4 * 1024 + y.val) :
    (cfg0.win 1).fill (cfg0.grid.coords t) d (((cfg0.win 1).blk t).view.read (Elt Ideal) A) (ix3 0 y w) = A (ix3 b u ⟨w.val, by omega⟩) := by
  unfold Pipeline.Window.fill
  refine (dif_pos (moved0_1 t (ix3 0 y w))).trans ?_
  refine congrArg A ?_
  blk_ext [widx t]
/-- The queries' block. -/
theorem blk_1 (t : Fin cfg0.N) (y : Fin 1024) (w : Fin 1024) (b : Fin 8) (hb : b.val = t.val / 4) (u : Fin 4096) (hu : u.val = t.val % 4 * 1024 + y.val) :
    X0_1 m c t (ix3 0 y w) = V m c main_v78 (ix3 b u ⟨w.val, by omega⟩) :=
  rd_1 (V m c main_v78) (dflt0_1 (F := Ideal)) t y w b hb u hu

end Cert.Att

end
-- ==== Proof.Tab.lean ====
module

public import proofs.«01_k».proof.Proof.Att3
public import proofs.«01_k».proof.Proof.Bucket
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- A gather of rows of the relative bias. -/
theorem gather_k (x : S32x16.Idx → EReal) (I : IVec S2x256x128x1 32) (t : Fin 2) (s : Fin 256) (r : Fin 128) (h : Fin 16) :
    Host.gather gather_S32x16_S2x256x128x1_S2x256x128x16_3_0_n_n_0_3_116 x I (ix4 t s r h) = x (ix2 ⟨min (I (ix4 t s r 0)).toInt.toNat 31, by omega⟩ h) := by
  unfold Host.gather
  congr 1
  funext a
  refine Fin.ext ?_
  fin_cases a
  · show GatherDims.start _ _ _ _ + GatherDims.batchCoord _ _ _ + GatherDims.offCoord _ _ _ = _
    have : GatherDims.siIdx gather_S32x16_S2x256x128x1_S2x256x128x16_3_0_n_n_0_3_116 (ix4 t s r h) ⟨0, by decide⟩ = ix4 t s r 0 := by
      funext b; refine Fin.ext ?_
      fin_cases b <;> rfl
    exact congrArg (fun z => min (I z).toInt.toNat 31) this
  · show GatherDims.start _ _ _ _ + GatherDims.batchCoord _ _ _ + GatherDims.offCoord _ _ _ = h.val
    exact Nat.zero_add _

/-- A row of the bias by a table's entry: minus infinity where the entry is negative. -/
def masked (x : S32x16.Idx → EReal) (T : BitVec 32) (h : Fin 16) : EReal :=
  Scalar.select (IntOp.cmpi .slt T 0#32) ⊥
    (x (ix2 ⟨min (Scalar.select (IntOp.cmpi .slt T 0#32) (IntOp.addi T 32#32) T).toInt.toNat 31, by omega⟩ h))

/-- The gather's indices from a table. -/
theorem idx_pure (C : IVec S2x256x128 32) (a : Fin 2) (s : Fin 256) (r : Fin 128) :
    broadcastInDim S2x256x128x1 ![0, 1, 2] bcast_S2x256x128_S2x256x128x1_0_1_2
      (select (cmpi .slt C (broadcastInDim S2x256x128 ![] bcast_S_S2x256x128 (constantI S_ 32 0#32)))
        (addi C (broadcastInDim S2x256x128 ![] bcast_S_S2x256x128 (constantI S_ 32 32#32))) C) (ix4 a s r 0) =
      Scalar.select (IntOp.cmpi .slt (C (ix3 a s r)) 0#32) (IntOp.addi (C (ix3 a s r)) 32#32) (C (ix3 a s r)) := by
  pointwise []

/-- The bias table from its two index tables. -/
theorem tab_pure (x : S32x16.Idx → EReal) (A B : IVec S1x256x128 32) (a : Fin 2) (h : Fin 16) (s : Fin 256) (r : Fin 128) :
    Scalar.select (IntOp.cmpi .slt (if h : a.val < 1 then A (ix3 ⟨a.val, h⟩ s r) else B (ix3 ⟨a.val - 1, by omega⟩ s r)) 0#32)
      (id (constant (F := Ideal) S_ .f32 4286578688#32) ix0)
      (Host.gather gather_S32x16_S2x256x128x1_S2x256x128x16_3_0_n_n_0_3_116 x
        (broadcastInDim S2x256x128x1 ![0, 1, 2] bcast_S2x256x128_S2x256x128x1_0_1_2
          (select (cmpi .slt (concatenate S2x256x128 0 [⟨S1x256x128, A⟩, ⟨S1x256x128, B⟩] concatenates_S1x256x128_S1x256x128_S2x256x128_d0)
              (broadcastInDim S2x256x128 ![] bcast_S_S2x256x128 (constantI S_ 32 0#32)))
            (addi (concatenate S2x256x128 0 [⟨S1x256x128, A⟩, ⟨S1x256x128, B⟩] concatenates_S1x256x128_S1x256x128_S2x256x128_d0)
              (broadcastInDim S2x256x128 ![] bcast_S_S2x256x128 (constantI S_ 32 32#32)))
            (concatenate S2x256x128 0 [⟨S1x256x128, A⟩, ⟨S1x256x128, B⟩] concatenates_S1x256x128_S1x256x128_S2x256x128_d0)))
        (ix4 a s r h)) =
      masked x (if a.val < 1 then A (ix3 0 s r) else B (ix3 0 s r)) h := by
  have hb : (constant (F := Ideal) S_ .f32 4286578688#32) ix0 = (⊥ : EReal) := by
    show Ideal.ofBits FTy.f32 4286578688#32 = ⊥
    simp [Ideal.ofBits, Ideal.ieee]
  have e : (if h : a.val < 1 then A (ix3 ⟨a.val, h⟩ s r) else B (ix3 ⟨a.val - 1, by omega⟩ s r)) = (if a.val < 1 then A (ix3 0 s r) else B (ix3 0 s r)) := by
    split
    · exact congrArg (fun z => A (ix3 z s r)) (Fin.ext (by show a.val = 0; omega))
    · exact congrArg (fun z => B (ix3 z s r)) (Fin.ext (by show a.val - 1 = 0; omega))
  have k : concatenate S2x256x128 0 [⟨S1x256x128, A⟩, ⟨S1x256x128, B⟩] concatenates_S1x256x128_S1x256x128_S2x256x128_d0 (ix3 a s r) =
      (if a.val < 1 then A (ix3 0 s r) else B (ix3 0 s r)) := by
    rw [← e]
    pointwise []
  rw [e]
  generalize concatenate S2x256x128 0 [⟨S1x256x128, A⟩, ⟨S1x256x128, B⟩] concatenates_S1x256x128_S1x256x128_S2x256x128_d0 = C at k ⊢
  rw [← k, id, hb]
  refine congrArg (Scalar.select _ ⊥) ((gather_k x _ a s r h).trans ?_)
  exact congrArg (fun z => x (ix2 z h)) (Fin.ext (congrArg (fun z : BitVec 32 => min z.toInt.toNat 31) (idx_pure C a s r)))

set_option maxHeartbeats 2000000 in
/-- The bias table the launch finds. -/
theorem V_tab (a : Fin 2) (h : Fin 16) (s : Fin 256) (r : Fin 128) : V m c main_v68 (ix4 a h s r) =
    masked (m ((c : Thread nD τ).loc main_arg7)) (if a.val < 1
      then Scalar.select (IntOp.andi (inwin r s) (IntOp.cmpi .sge (BitVec.ofNat 32 s.val) 112#32)) (bucket (dist r s)) 4294967295#32
      else Scalar.select (inwin r s) (bucket (dist r s)) 4294967295#32) h := by
  unfold V
  after_reads_at
  refine (tab_pure (m ((c : Thread nD τ).loc main_arg7)) _ _ a h s r).trans ?_
  refine congrArg (fun z => masked _ z h) ?_
  split
  · after_reads_at
    rfl
  · after_reads_at
    rfl

/-- Two conditions at once. -/
theorem andi_one (x y : BitVec 1) : IntOp.andi x y = 1#1 ↔ x = 1#1 ∧ y = 1#1 := by
  revert x y; decide

/-- A key's place is past the padding. -/
theorem sge_112 (s : Fin 256) : IntOp.cmpi .sge (BitVec.ofNat 32 s.val) 112#32 = 1#1 ↔ 112 ≤ s.val := by
  revert s; decide +kernel

/-- A bias row by an entry that is not negative. -/
theorem masked_ok (x : S32x16.Idx → EReal) (T : BitVec 32) (h : Fin 16) (n : IntOp.cmpi .slt T 0#32 = 0#1) :
    masked x T h = x (ix2 ⟨min T.toInt.toNat 31, by omega⟩ h) := by
  have e (y z : EReal) : Scalar.select (IntOp.cmpi .slt T 0#32) y z = z := by rw [n]; rfl
  have e' (y z : BitVec 32) : Scalar.select (IntOp.cmpi .slt T 0#32) y z = z := by rw [n]; rfl
  unfold masked
  rw [e]
  refine congrArg (fun z => x (ix2 z h)) (Fin.ext ?_)
  show min (Scalar.select (IntOp.cmpi .slt T 0#32) (IntOp.addi T 32#32) T).toInt.toNat 31 = _
  rw [e']

/-- A bias row by the entry minus one. -/
theorem masked_neg (x : S32x16.Idx → EReal) (h : Fin 16) : masked x 4294967295#32 h = ⊥ := by
  have n : IntOp.cmpi .slt 4294967295#32 0#32 = 1#1 := by decide
  have e (y z : EReal) : Scalar.select (IntOp.cmpi .slt 4294967295#32 0#32) y z = y := by rw [n]; rfl
  unfold masked
  rw [e]

/-- A bias row by an entry kept under a mask. -/
theorem masked_sel (x : S32x16.Idx → EReal) (k : BitVec 1) (T : BitVec 32) (h : Fin 16) (hb : IntOp.cmpi .slt T 0#32 = 0#1) :
    masked x (Scalar.select k T 4294967295#32) h = if k = 1#1 then x (ix2 ⟨min T.toInt.toNat 31, by omega⟩ h) else ⊥ := by
  by_cases hk : k = 1#1
  · rw [if_pos hk]
    exact (congrArg (fun z => masked x z h) (if_pos hk)).trans (masked_ok x T h hb)
  · rw [if_neg hk]
    exact (congrArg (fun z => masked x z h) (if_neg hk)).trans (masked_neg x h)

/-- A bias row by a bucket kept under a mask. -/
theorem masked_select (x : S32x16.Idx → EReal) (k : BitVec 1) (r : Fin 128) (s : Fin 256) (h : Fin 16) :
    masked x (Scalar.select k (bucket (dist r s)) 4294967295#32) h =
      if k = 1#1 then x (ix2 ⟨min (bucket (dist r s)).toInt.toNat 31, by omega⟩ h) else ⊥ :=
  masked_sel x k (bucket (dist r s)) h (bucket_nonneg (dist r s) (dist_le r s))

end Cert.Att

end
-- ==== Proof.Soft.lean ====
module

public import Idealize.ShloMosaic.PureOps.Ideal

@[expose] public section

noncomputable section

namespace Cert.Att

open Idealize.ShloMosaic

/-- One query's attention over 256 keys in base two, the division last: logits `g`, sink `s`, values `v`. -/
def twoOut (g : Fin 256 → EReal) (s : EReal) (v : Fin 256 → EReal) : EReal :=
  (∑ x, v x * Ideal.exp2 (g x - max (Finset.fold max ⊥ g Finset.univ) s)) *
    Ideal.div 1 ((∑ x, Ideal.exp2 (g x - max (Finset.fold max ⊥ g Finset.univ) s)) +
      Ideal.exp2 (s - max (Finset.fold max ⊥ g Finset.univ) s))

/-- One query's softmax with a sink over 256 keys, and its weighted values. -/
def softOut (g : Fin 256 → EReal) (s : EReal) (v : Fin 256 → EReal) : EReal :=
  ∑ x, Ideal.div (Ideal.exp (g x - max (Finset.fold max ⊥ g Finset.univ) s))
    ((∑ x, Ideal.exp (g x - max (Finset.fold max ⊥ g Finset.univ) s)) +
      Ideal.exp (s - max (Finset.fold max ⊥ g Finset.univ) s)) * v x

/-- A finite factor that is not negative distributes over a sum. -/
theorem sum_mul_coe {ι : Type} (A : Finset ι) (f : ι → EReal) (c : ℝ) (hc : 0 ≤ c) :
    (∑ x ∈ A, f x) * (c : EReal) = ∑ x ∈ A, f x * (c : EReal) := by
  classical
  refine Finset.induction_on A (by simp) ?_
  intro a A ha ih
  rw [Finset.sum_insert ha, Finset.sum_insert ha, ← ih, mul_comm, EReal.left_distrib_of_nonneg_of_ne_top (by exact_mod_cast hc) (EReal.coe_ne_top c),
    mul_comm, mul_comm (c : EReal)]

/-- The largest of logits without an infinite one and of a finite sink is finite. -/
theorem max_real (g : Fin 256 → EReal) (hg : ∀ x, g x ≠ ⊤) (s : ℝ) :
    ∃ μ : ℝ, max (Finset.fold max ⊥ g Finset.univ) (s : EReal) = μ := by
  have ht : Finset.fold max ⊥ g Finset.univ < ⊤ := by
    rw [Finset.fold_max_lt]
    exact ⟨bot_lt_top, fun x _ => lt_top_iff_ne_top.mpr (hg x)⟩
  have h1 : max (Finset.fold max ⊥ g Finset.univ) (s : EReal) ≠ ⊤ := (max_lt ht (EReal.coe_lt_top s)).ne
  have h2 : max (Finset.fold max ⊥ g Finset.univ) (s : EReal) ≠ ⊥ := ((EReal.bot_lt_coe s).trans_le (le_max_right _ _)).ne'
  exact ⟨_, (EReal.coe_toReal h1 h2).symm⟩

/-- Scaling every logit and the sink scales the largest. -/
theorem max_scale (g : Fin 256 → EReal) (s S : ℝ) (hS : 0 < S) :
    max (Finset.fold max ⊥ (fun x => g x * (S : EReal)) Finset.univ) ((s : EReal) * S) =
      max (Finset.fold max ⊥ g Finset.univ) s * S := by
  have mono : Monotone fun z : EReal => z * (S : EReal) := fun a b h =>
    mul_le_mul_of_nonneg_right h (by exact_mod_cast hS.le)
  have hf := Finset.fold_hom (op := max) (op' := max) (s := Finset.univ) (b := (⊥ : EReal)) (f := g)
    (m := fun z : EReal => z * (S : EReal)) (fun x y => mono.map_max)
  have hb : (⊥ : EReal) * (S : EReal) = ⊥ := EReal.bot_mul_coe_of_pos hS
  simp only [hb] at hf
  rw [hf]
  exact mono.map_max.symm

/-- A share in base two of scaled logits is the share in base e. -/
theorem share (ok : Prop) [Decidable ok] (a μ : ℝ) :
    Ideal.exp2 ((if ok then (a : EReal) else ⊥) * (((Real.log 2)⁻¹ : ℝ) : EReal) - (μ : EReal) * (((Real.log 2)⁻¹ : ℝ) : EReal)) =
      ((if ok then Real.exp (a - μ) else 0 : ℝ) : EReal) := by
  have hl : 0 < Real.log 2 := Real.log_pos (by norm_num)
  split
  · rw [← EReal.coe_mul, ← EReal.coe_mul, ← EReal.coe_sub, Ideal.exp2_coe]
    congr 1
    rw [show Real.rpow 2 (a * (Real.log 2)⁻¹ - μ * (Real.log 2)⁻¹) = (2 : ℝ) ^ (a * (Real.log 2)⁻¹ - μ * (Real.log 2)⁻¹) from rfl,
      Real.rpow_def_of_pos (by norm_num)]
    congr 1
    field_simp
  · rw [EReal.bot_mul_coe_of_pos (inv_pos.mpr hl), ← EReal.coe_mul]
    rw [EReal.bot_sub]; rfl

/-- A share in base e of a masked logit. -/
theorem share_e (ok : Prop) [Decidable ok] (a μ : ℝ) :
    Ideal.exp ((if ok then (a : EReal) else ⊥) - (μ : EReal)) = ((if ok then Real.exp (a - μ) else 0 : ℝ) : EReal) := by
  split
  · rw [← EReal.coe_sub, Ideal.exp_coe]
  · rw [EReal.bot_sub]; rfl

/-- The attention in base two with the division last is the softmax with a sink. -/
theorem two_soft (ok : Fin 256 → Prop) [∀ x, Decidable (ok x)] (a : Fin 256 → ℝ) (s : ℝ) (v : Fin 256 → EReal) :
    twoOut (fun x => (if ok x then (a x : EReal) else ⊥) * (((Real.log 2)⁻¹ : ℝ) : EReal)) ((s : EReal) * (((Real.log 2)⁻¹ : ℝ) : EReal)) v =
      softOut (fun x => if ok x then (a x : EReal) else ⊥) s v := by
  have hl : 0 < Real.log 2 := Real.log_pos (by norm_num)
  obtain ⟨μ, hμ⟩ := max_real (fun x => if ok x then (a x : EReal) else ⊥) (fun x => by split <;> simp) s
  unfold twoOut softOut
  rw [max_scale _ _ _ (inv_pos.mpr hl), hμ]
  have hs : Ideal.exp2 ((s : EReal) * (((Real.log 2)⁻¹ : ℝ) : EReal) - (μ : EReal) * (((Real.log 2)⁻¹ : ℝ) : EReal)) = ((Real.exp (s - μ) : ℝ) : EReal) := by
    have := share True s μ
    simpa using this
  have hs' : Ideal.exp ((s : EReal) - (μ : EReal)) = ((Real.exp (s - μ) : ℝ) : EReal) := by
    rw [← EReal.coe_sub, Ideal.exp_coe]
  simp only [share, share_e, hs, hs']
  have hp (x : Fin 256) : 0 ≤ (if ok x then Real.exp (a x - μ) else 0) := by split <;> positivity
  generalize hE : (fun x => if ok x then Real.exp (a x - μ) else 0) = E at *
  have hE' (x : Fin 256) : (if ok x then Real.exp (a x - μ) else 0) = E x := congrFun hE x
  simp only [hE'] at hp ⊢
  have hD : (∑ x, (E x : EReal)) + ((Real.exp (s - μ) : ℝ) : EReal) = (((∑ x, E x) + Real.exp (s - μ) : ℝ) : EReal) := by
    rw [EReal.coe_add]
    refine congrArg (· + _) ?_
    exact (map_sum (⟨⟨Real.toEReal, EReal.coe_zero⟩, EReal.coe_add⟩ : ℝ →+ EReal) _ _).symm
  rw [hD]
  have hpos : 0 < (∑ x, E x) + Real.exp (s - μ) := add_pos_of_nonneg_of_pos (Finset.sum_nonneg fun x _ => hp x) (Real.exp_pos _)
  generalize (∑ x, E x) + Real.exp (s - μ) = D at hpos ⊢
  rw [Ideal.div_coe hpos.ne', one_mul, sum_mul_coe _ _ _ (one_div_pos.mpr hpos).le]
  refine Finset.sum_congr rfl fun x _ => ?_
  rw [Ideal.div_coe hpos.ne', mul_comm (v x), mul_assoc, mul_comm (v x), ← mul_assoc]

end Cert.Att

end
-- ==== Proof.Form.lean ====
module

public import proofs.«01_k».proof.Proof.Att2
public import proofs.«01_k».proof.Proof.Bucket
public import proofs.«01_k».proof.Proof.Soft

@[expose] public section

noncomputable section

namespace Cert.Att

open Idealize.ShloMosaic

/-- The factor of the scores, as a constant. -/
theorem const_eighth : Ideal.ofBits FTy.f32 0x3E000000#32 = ((1 / 8 : ℝ) : EReal) := by
  simp [Ideal.ofBits, Ideal.ieee]
  rw [← EReal.coe_mul]
  norm_num

/-- The named constant is one over the logarithm of two. -/
theorem l2e_eq : (l2e : EReal) = (((Real.log 2)⁻¹ : ℝ) : EReal) :=
  IdealRules.named_const.ideal_named_scalar _ _ _ _ rfl

/-- Key or value `s` of block `j`'s window: zeros and the meta tokens' before the sequence, else the sequence's. -/
def win (x : Fin 4096 → EReal) (z : Fin 16 → EReal) (j : Fin 32) (s : Fin 256) : EReal :=
  if h : 128 * j.val + s.val < 128 then (if h' : 112 ≤ s.val then z ⟨s.val - 112, by omega⟩ else 0) else x ⟨128 * j.val + s.val - 128, by omega⟩

/-- Whether key `s` of block `j`'s window counts for query `r`. -/
def ok (j : Fin 32) (r : Fin 128) (s : Fin 256) : Prop := inwin r s = 1#1 ∧ 112 ≤ 128 * j.val + s.val

/-- Whether a key counts is decided by the two conditions. -/
instance (j : Fin 32) (r : Fin 128) (s : Fin 256) : Decidable (ok j r s) := inferInstanceAs (Decidable (_ ∧ _))

/-- The bucket of query `r` and key `s`, as a row of the relative bias. -/
def brow (r : Fin 128) (s : Fin 256) : Fin 32 := ⟨min (bucket (dist r s)).toInt.toNat 31, by omega⟩

/-- Row `r` of block `j`. -/
def prow (j : Fin 32) (r : Fin 128) : Fin 4096 := ⟨128 * j.val + r.val, by omega⟩

/-- Column `d` of head `h`. -/
def hcol (h : Fin 16) (d : Fin 64) : Fin 1024 := ⟨64 * h.val + d.val, by omega⟩

/-- Column `d` of head `h`'s keys and values. -/
def kcol (h : Fin 16) (d : Fin 64) : Fin 128 := ⟨64 * (h.val / 8) + d.val, by omega⟩

/-- One element of the kernel's result. -/
def attK (q : Fin 8 → Fin 4096 → Fin 1024 → EReal) (k v : Fin 8 → Fin 4096 → Fin 128 → EReal) (km vm : Fin 16 → Fin 128 → EReal)
    (ga : Fin 8 → Fin 4096 → Fin 1024 → EReal) (rb : Fin 32 → Fin 16 → EReal) (sk : Fin 16 → EReal) (rw : Fin 8 → Fin 4096 → Fin 1024 → EReal)
    (b : Fin 8) (j : Fin 32) (r : Fin 128) (h : Fin 16) (d : Fin 64) : EReal :=
  gated (ga b (prow j r) (hcol h d))
    (headOut (fun s => logit (fun e => win (fun u => k b u (kcol h e)) (fun u => km u (kcol h e)) j s)
        (fun e => q b (prow j r) (hcol h e) * Ideal.ofBits FTy.f32 0x3E000000#32) (if ok j r s then rb (brow r s) h else ⊥))
      (sk h * l2e) (fun s => win (fun u => v b u (kcol h d)) (fun u => vm u (kcol h d)) j s))
    (rw b (prow j r) (hcol h d))

/-- One element of the reference's result. -/
def attR (q : Fin 8 → Fin 4096 → Fin 1024 → EReal) (k v : Fin 8 → Fin 4096 → Fin 128 → EReal) (km vm : Fin 16 → Fin 128 → EReal)
    (ga : Fin 8 → Fin 4096 → Fin 1024 → EReal) (rb : Fin 32 → Fin 16 → EReal) (sk : Fin 16 → EReal) (rw : Fin 8 → Fin 4096 → Fin 1024 → EReal)
    (b : Fin 8) (j : Fin 32) (r : Fin 128) (h : Fin 16) (d : Fin 64) : EReal :=
  Ideal.div 1 (1 + Ideal.exp (-(ga b (prow j r) (hcol h d)))) *
    softOut (fun s => if ok j r s then
        (∑ e : Fin 64, win (fun u => k b u (kcol h e)) (fun u => km u (kcol h e)) j s * q b (prow j r) (hcol h e)) * Ideal.ofBits FTy.f32 0x3E000000#32
          + rb (brow r s) h else ⊥)
      (sk h) (fun s => win (fun u => v b u (kcol h d)) (fun u => vm u (kcol h d)) j s) +
    rw b (prow j r) (hcol h d)

/-- A window of finite entries has finite entries. -/
theorem win_real (x : Fin 4096 → EReal) (z : Fin 16 → EReal) (j : Fin 32) (s : Fin 256) (hx : ∀ u, ∃ a : ℝ, x u = a) (hz : ∀ u, ∃ a : ℝ, z u = a) :
    ∃ a : ℝ, win x z j s = a := by
  unfold win
  split
  · split
    · exact hz _
    · exact ⟨0, rfl⟩
  · exact hx _

/-- A sum of finite values. -/
theorem coe_sum64 (f : Fin 64 → ℝ) : ((∑ e, f e : ℝ) : EReal) = ∑ e, (f e : EReal) :=
  map_sum (⟨⟨Real.toEReal, EReal.coe_zero⟩, EReal.coe_add⟩ : ℝ →+ EReal) _ _

/-- A score of finite keys and queries: the factor before the products and after. -/
theorem score_real (K Q : Fin 64 → EReal) (hK : ∀ e, ∃ a : ℝ, K e = a) (hQ : ∀ e, ∃ a : ℝ, Q e = a) :
    ∃ a : ℝ, (∑ e, K e * (Q e * Ideal.ofBits FTy.f32 0x3E000000#32)) = (a : EReal) ∧ (∑ e, K e * Q e) * Ideal.ofBits FTy.f32 0x3E000000#32 = (a : EReal) := by
  choose k hk using hK
  choose q hq using hQ
  refine ⟨(∑ e, k e * q e) * (1 / 8), ?_, ?_⟩
  · have e : (∑ e, K e * (Q e * Ideal.ofBits FTy.f32 0x3E000000#32)) = ∑ e, ((k e * (q e * (1 / 8)) : ℝ) : EReal) :=
      Finset.sum_congr rfl fun e _ => by rw [hk, hq, const_eighth, ← EReal.coe_mul, ← EReal.coe_mul]
    rw [e, ← coe_sum64]
    congr 1
    rw [Finset.sum_mul]
    exact Finset.sum_congr rfl fun e _ => by ring
  · have e : (∑ e, K e * Q e) = ∑ e, ((k e * q e : ℝ) : EReal) :=
      Finset.sum_congr rfl fun e _ => by rw [hk, hq, ← EReal.coe_mul]
    rw [e, ← coe_sum64, const_eighth, ← EReal.coe_mul]

/-- The kernel's formula is the reference's where queries, keys, biases and sinks are finite. -/
theorem att_eq (q : Fin 8 → Fin 4096 → Fin 1024 → EReal) (k v : Fin 8 → Fin 4096 → Fin 128 → EReal) (km vm : Fin 16 → Fin 128 → EReal)
    (ga : Fin 8 → Fin 4096 → Fin 1024 → EReal) (rb : Fin 32 → Fin 16 → EReal) (sk : Fin 16 → EReal) (rw : Fin 8 → Fin 4096 → Fin 1024 → EReal)
    (b : Fin 8) (j : Fin 32) (r : Fin 128) (h : Fin 16) (d : Fin 64)
    (hq : ∀ b u i, ∃ a : ℝ, q b u i = a) (hk : ∀ b u i, ∃ a : ℝ, k b u i = a) (hkm : ∀ u i, ∃ a : ℝ, km u i = a)
    (hb : ∀ u i, ∃ a : ℝ, rb u i = a) (hs : ∀ i, ∃ a : ℝ, sk i = a) :
    attK q k v km vm ga rb sk rw b j r h d = attR q k v km vm ga rb sk rw b j r h d := by
  obtain ⟨σ, hσ⟩ := hs h
  have hl (s : Fin 256) : ∃ a : ℝ,
      logit (fun e => win (fun u => k b u (kcol h e)) (fun u => km u (kcol h e)) j s)
        (fun e => q b (prow j r) (hcol h e) * Ideal.ofBits FTy.f32 0x3E000000#32) (if ok j r s then rb (brow r s) h else ⊥) =
        (if ok j r s then (a : EReal) else ⊥) * (((Real.log 2)⁻¹ : ℝ) : EReal) ∧
      (if ok j r s then
        (∑ e : Fin 64, win (fun u => k b u (kcol h e)) (fun u => km u (kcol h e)) j s * q b (prow j r) (hcol h e)) * Ideal.ofBits FTy.f32 0x3E000000#32
          + rb (brow r s) h else ⊥) = (if ok j r s then (a : EReal) else ⊥) := by
    obtain ⟨a, h1, h2⟩ := score_real (fun e => win (fun u => k b u (kcol h e)) (fun u => km u (kcol h e)) j s) (fun e => q b (prow j r) (hcol h e))
      (fun e => win_real _ _ j s (fun u => hk b u _) (fun u => hkm u _)) (fun e => hq b _ _)
    obtain ⟨β, hβ⟩ := hb (brow r s) h
    refine ⟨a + β, ?_, ?_⟩
    · unfold logit
      rw [h1, l2e_eq]
      split
      · rw [hβ, ← EReal.coe_add]
      · rw [EReal.add_bot]
    · rw [h2]
      split
      · rw [hβ, ← EReal.coe_add]
      · rfl
  choose a h1 h2 using hl
  unfold attK attR gated
  simp only [h1, h2, hσ, l2e_eq, zero_sub]
  rw [← two_soft (ok j r) a σ]
  rfl

end Cert.Att

end
-- ==== Proof.Att7.lean ====
module

public import proofs.«01_k».proof.Proof.Att6
public import proofs.«01_k».proof.Proof.Tab
public import proofs.«01_k».proof.Proof.Form

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- A group's keys or values: the rows before and the block's own. -/
theorem vtail_apply (a b : FVec Ideal S128x256 .bf16) (g : Nat) (hg : g < 2) (h) (x : Fin 256) (l : Fin 128) :
    vtail a b (g * 128) h (ix2 x l) = if hx : x.val < 128 then a (ix2 ⟨x.val, hx⟩ ⟨g * 128 + l.val, by omega⟩)
      else b (ix2 ⟨x.val - 128, by omega⟩ ⟨g * 128 + l.val, by omega⟩) := by
  pointwise [vtail]

/-- A group's keys or values are the block's window, `o = 0` for keys and `o = 256` for values. -/
theorem tkv_win (t : Fin cfg0.N) (o : Nat) (ho : o + 256 ≤ 512) (h) (h') (n p : Nat) (hn : n < 8) (hp : p < 8) (b : Fin 8) (hb : b.val = t.val / 4) (j : Fin 32)
    (hj : j.val = 8 * (t.val % 4) + n) (x : Fin 256) (l : Fin 128) (X : Fin 4096 → EReal) (Z : Fin 16 → EReal)
    (hX : ∀ u, V m c main_v78 (ix3 b u ⟨1024 + (o + (p / 4 * 128 + l.val)), by omega⟩) = X u)
    (hZ : ∀ (u : Fin 128) (hu : 112 ≤ u.val), V m c main_v11 (ix2 u ⟨1024 + (o + (p / 4 * 128 + l.val)), by omega⟩) = Z ⟨u.val - 112, by omega⟩)
    (h0 : ∀ u : Fin 128, u.val < 112 → V m c main_v11 (ix2 u ⟨1024 + (o + (p / 4 * 128 + l.val)), by omega⟩) = (0 : EReal)) :
    tkv (grid0.coords t) (iblk m c 3 t) (iblk m c 4 t) (iblk m c 5 t) o h h' n p hn hp (ix2 x l) = win X Z j x := by
  have hc := coord1 t
  have ht4 : t.val % 4 < 4 := Nat.mod_lt _ (by decide)
  unfold tkv
  refine (vtail_apply _ _ (p / 4) (by omega) _ x l).trans ?_
  unfold win
  split
  next hx =>
    rcases n with _ | n
    · refine (vprev_apply (grid0.coords t) (iblk m c 4 t) (iblk m c 5 t) o h' _ _ ho).trans ?_
      split
      next hi =>
        refine (blk_5 m c t _ _ ⟨1024 + (o + (p / 4 * 128 + l.val)), by omega⟩ rfl).trans ?_
        rw [dif_pos (by omega)]
        split
        next hs => exact hZ _ hs
        next hs => exact h0 _ (by show x.val < 112; omega)
      next hi =>
        refine (blk_4 m c t _ _ b hb ⟨128 * j.val + x.val - 128, by omega⟩ (by dsimp only; omega) ⟨1024 + (o + (p / 4 * 128 + l.val)), by omega⟩ rfl).trans ?_
        rw [dif_neg (by omega)]
        exact hX _
    · refine (vrows_apply (vown (iblk m c 3 t) o h) n (by omega) _ _ _).trans ?_
      refine (vown_apply (iblk m c 3 t) o h _ _ ho).trans ?_
      refine (blk_3 m c t _ _ b hb ⟨128 * j.val + x.val - 128, by omega⟩ (by dsimp only; omega) ⟨1024 + (o + (p / 4 * 128 + l.val)), by omega⟩ rfl).trans ?_
      rw [dif_neg (by omega)]
      exact hX _
  next hx =>
    refine (vrows_apply (vown (iblk m c 3 t) o h) n (by omega) _ _ _).trans ?_
    refine (vown_apply (iblk m c 3 t) o h _ _ ho).trans ?_
    refine (blk_3 m c t _ _ b hb ⟨128 * j.val + x.val - 128, by omega⟩ (by dsimp only; omega) ⟨1024 + (o + (p / 4 * 128 + l.val)), by omega⟩ rfl).trans ?_
    rw [dif_neg (by omega)]
    exact hX _

/-- A group's keys. -/
theorem tkv_k (t : Fin cfg0.N) (h) (h') (n p : Nat) (hn : n < 8) (hp : p < 8) (b : Fin 8) (hb : b.val = t.val / 4) (j : Fin 32)
    (hj : j.val = 8 * (t.val % 4) + n) (x : Fin 256) (f : Fin 2) (d : Fin 64) (k : Fin 16) (hk : k.val / 8 = p / 4) :
    tkv (grid0.coords t) (iblk m c 3 t) (iblk m c 4 t) (iblk m c 5 t) 0 h h' n p hn hp (ix2 x (half 64 f d)) =
      win (fun u => m ((c : Thread nD τ).loc main_arg1) (ix3 b u (kcol k d))) (fun u => m ((c : Thread nD τ).loc main_arg4) (ix2 u (kcol k d))) j x := by
  have hf := f.isLt
  have e : (⟨1024 + (0 + (p / 4 * 128 + (half 64 f d).val)), by have := (half 64 f d).isLt; omega⟩ : Fin 1536) =
      ⟨1024 + (128 * (⟨p / 4, by omega⟩ : Fin 2).val + (64 * f.val + d.val)), by dsimp only; omega⟩ := Fin.ext (by dsimp only [half]; omega)
  have ek : (⟨64 * (⟨p / 4, by omega⟩ : Fin 2).val + d.val, by dsimp only; omega⟩ : Fin 128) = kcol k d := Fin.ext (by dsimp only [kcol]; omega)
  refine tkv_win m c t 0 (by omega) h h' n p hn hp b hb j hj x (half 64 f d) _ _ (fun u => ?_) (fun u hu => ?_) (fun u hu => ?_)
  · rw [e, V_k m c b u ⟨p / 4, by omega⟩ f d, ek]
  · rw [e, V_mk m c u hu ⟨p / 4, by omega⟩ f d, ek]
  · exact V_pad m c u hu _

/-- A group's values. -/
theorem tkv_v (t : Fin cfg0.N) (h) (h') (n p : Nat) (hn : n < 8) (hp : p < 8) (b : Fin 8) (hb : b.val = t.val / 4) (j : Fin 32)
    (hj : j.val = 8 * (t.val % 4) + n) (x : Fin 256) (f : Fin 2) (d : Fin 64) (k : Fin 16) (hk : k.val / 8 = p / 4) :
    tkv (grid0.coords t) (iblk m c 3 t) (iblk m c 4 t) (iblk m c 5 t) 256 h h' n p hn hp (ix2 x (half 64 f d)) =
      win (fun u => m ((c : Thread nD τ).loc main_arg2) (ix3 b u (kcol k d))) (fun u => m ((c : Thread nD τ).loc main_arg5) (ix2 u (kcol k d))) j x := by
  have hf := f.isLt
  have e : (⟨1024 + (256 + (p / 4 * 128 + (half 64 f d).val)), by have := (half 64 f d).isLt; omega⟩ : Fin 1536) =
      ⟨1024 + (256 + (128 * (⟨p / 4, by omega⟩ : Fin 2).val + (64 * f.val + d.val))), by dsimp only; omega⟩ := Fin.ext (by dsimp only [half]; omega)
  have ek : (⟨64 * (⟨p / 4, by omega⟩ : Fin 2).val + d.val, by dsimp only; omega⟩ : Fin 128) = kcol k d := Fin.ext (by dsimp only [kcol]; omega)
  refine tkv_win m c t 256 (by omega) h h' n p hn hp b hb j hj x (half 64 f d) _ _ (fun u => ?_) (fun u hu => ?_) (fun u hu => ?_)
  · rw [e, V_v m c b u ⟨p / 4, by omega⟩ f d, ek]
  · rw [e, V_mv m c u hu ⟨p / 4, by omega⟩ f d, ek]
  · exact V_pad m c u hu _

/-- A pair's part of a block, at an index. -/
theorem tpart_apply {e : EltTy} (x : Vec Ideal S1x1024x1024 e) (n p : Nat) (hn : n < 8) (hp : p < 8) (r l : Fin 128) :
    tpart x n p hn hp (ix3 0 r l) = x (ix3 0 ⟨n * 128 + r.val, by omega⟩ ⟨p * 128 + l.val, by omega⟩) := by
  unfold tpart
  refine congrArg x ?_
  funext a
  refine Fin.ext ((Rect.idx_unit_val ..).trans ?_)
  fin_cases a <;> rfl

/-- A head's bias, at an index. -/
theorem tbias_apply (x : Vec Ideal S1x16x256x128 .f32) (hd : Nat) (h : hd < 16) (s : Fin 256) (r : Fin 128) :
    tbias x hd h (ix4 0 0 s r) = x (ix4 0 ⟨hd, h⟩ s r) := by
  unfold tbias
  refine congrArg x ?_
  funext a
  refine Fin.ext ((Rect.idx_unit_val ..).trans ?_)
  fin_cases a
  · rfl
  · rfl
  · exact Nat.zero_add _
  · exact Nat.zero_add _

/-- A head's sink, as an entry. -/
theorem tsink_apply (x : Vec Ideal S16 .f32) (hd : Nat) (h : hd < 16) : tsink x hd h = x (ix1 ⟨hd, h⟩) := by
  unfold tsink
  refine congrArg x ?_
  funext a
  refine Fin.ext ((Rect.idx_unit_val ..).trans ?_)
  have h1 (z : S1.Idx) : (z 0).val = 0 := Nat.lt_one_iff.mp (z 0).isLt
  fin_cases a
  exact congrArg (hd + ·) (h1 _)

/-- A pair's biases, at an index. -/
theorem pair_bias (x : Vec Ideal S1x16x256x128 .f32) (p : Nat) (h0 : 2 * p < 16) (h1 : 2 * p + 1 < 16) (f : Fin 2) (s : Fin 256) (r : Fin 128) (k : Fin 16) (hk : k.val = 2 * p + f.val) :
    (![tbias x (2 * p) h0, tbias x (2 * p + 1) h1] f) (ix4 0 0 s r) = x (ix4 0 k s r) := by
  rcases f with ⟨_ | _ | _, hff⟩
  · exact (tbias_apply x (2 * p) h0 s r).trans (congrArg (fun z => x (ix4 0 z s r)) (Fin.ext hk.symm))
  · exact (tbias_apply x (2 * p + 1) h1 s r).trans (congrArg (fun z => x (ix4 0 z s r)) (Fin.ext hk.symm))
  · omega

/-- A pair's sinks. -/
theorem pair_sink (x : Vec Ideal S16 .f32) (p : Nat) (h0 : 2 * p < 16) (h1 : 2 * p + 1 < 16) (f : Fin 2) (k : Fin 16) (hk : k.val = 2 * p + f.val) :
    (![tsink x (2 * p) h0, tsink x (2 * p + 1) h1] f) = x (ix1 k) := by
  rcases f with ⟨_ | _ | _, hff⟩
  · exact (tsink_apply x (2 * p) h0).trans (congrArg (fun z => x (ix1 z)) (Fin.ext hk.symm))
  · exact (tsink_apply x (2 * p + 1) h1).trans (congrArg (fun z => x (ix1 z)) (Fin.ext hk.symm))
  · omega

/-- The first block's mask. -/
theorem mask_first (j : Fin 32) (hj : j.val = 0) (r : Fin 128) (s : Fin 256) :
    IntOp.andi (inwin r s) (IntOp.cmpi .sge (BitVec.ofNat 32 s.val) 112#32) = 1#1 ↔ ok j r s := by
  refine (andi_one _ _).trans (and_congr Iff.rfl ((sge_112 s).trans ?_))
  omega

/-- The later blocks' mask. -/
theorem mask_later (j : Fin 32) (hj : 1 ≤ j.val) (r : Fin 128) (s : Fin 256) : inwin r s = 1#1 ↔ ok j r s :=
  ⟨fun h => ⟨h, by omega⟩, fun h => h.1⟩

/-- The table is the relative bias under the mask. -/
theorem tab_ok (j : Fin 32) (k : Fin 16) (s : Fin 256) (r : Fin 128) (a : Fin 2) (ha : a.val = min j.val 1) :
    V m c main_v68 (ix4 a k s r) = if ok j r s then m ((c : Thread nD τ).loc main_arg7) (ix2 (brow r s) k) else (⊥ : EReal) := by
  refine (V_tab m c a k s r).trans ?_
  split
  next h0 => exact (masked_select _ _ r s k).trans (if_congr (mask_first j (by omega) r s) rfl rfl)
  next h0 => exact (masked_select _ _ r s k).trans (if_congr (mask_later j (by omega) r s) rfl rfl)

/-- The first sub-block's table. -/
theorem ttab_zero (x6 x7 : Vec Ideal S1x16x256x128 .f32) (i : S1x16x256x128.Idx) : ttab x6 x7 0 i = x6 i := rfl
/-- A later sub-block's table. -/
theorem ttab_succ (x6 x7 : Vec Ideal S1x16x256x128 .f32) (n : Nat) (i : S1x16x256x128.Idx) : ttab x6 x7 (n + 1) i = x7 i := rfl

/-- A block's bias is the relative bias under the mask. -/
theorem ttab_apply (t : Fin cfg0.N) (n : Nat) (hn : n < 8) (j : Fin 32) (hj : j.val = 8 * (t.val % 4) + n) (k : Fin 16) (s : Fin 256) (r : Fin 128) :
    ttab (iblk m c 6 t) (iblk m c 7 t) n (ix4 0 k s r) = if ok j r s then m ((c : Thread nD τ).loc main_arg7) (ix2 (brow r s) k) else (⊥ : EReal) := by
  have e1 : ((1 : Fin 2) : Nat) = 1 := rfl
  rcases n with _ | n
  · refine (ttab_zero (iblk m c 6 t) (iblk m c 7 t) (ix4 0 k s r)).trans ?_
    refine (blk_6 m c t k s r ⟨min (t.val % 4) 1, by omega⟩ rfl).trans ?_
    exact tab_ok m c j k s r _ (by dsimp only; omega)
  · refine (ttab_succ (iblk m c 6 t) (iblk m c 7 t) n (ix4 0 k s r)).trans ?_
    refine (blk_7 m c t k s r).trans ?_
    exact tab_ok m c j k s r 1 (by omega)

end Cert.Att

end
-- ==== Proof.Att8.lean ====
module

public import proofs.«01_k».proof.Proof.Att7

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- One element of a tile, from its parts. -/
theorem tile_gen (i : grid0.Coords) (x0 : Vec Ideal S16 .f32) (x1 : Vec Ideal S1x1024x1024 .bf16) (x2 : Vec Ideal S1x1024x1024 .f32)
    (x3 : Vec Ideal S1x1024x512 .bf16) (x4 : Vec Ideal S1x128x512 .bf16) (x5 : Vec Ideal S128x512 .bf16)
    (x6 x7 : Vec Ideal S1x16x256x128 .f32) (x8 : Vec Ideal S1x1024x1024 .f32) (n p : Nat) (hn : n < 8) (hp : p < 8) (r l : Fin 128) (f : Fin 2) (hf : l.val / 64 = f.val)
    (k : Fin 16) (hk : k.val = 2 * p + f.val) (G W S : EReal) (Q : Fin 64 → EReal) (B : Fin 256 → EReal) (K : Fin 256 → Fin 64 → EReal) (Y : Fin 256 → EReal)
    (hG : x2 (ix3 0 ⟨n * 128 + r.val, by omega⟩ ⟨p * 128 + l.val, by omega⟩) = G) (hW : x8 (ix3 0 ⟨n * 128 + r.val, by omega⟩ ⟨p * 128 + l.val, by omega⟩) = W)
    (hS : x0 (ix1 k) = S) (hQ : ∀ e : Fin 64, x1 (ix3 0 ⟨n * 128 + r.val, by omega⟩ ⟨p * 128 + (half 64 f e).val, by have := (half 64 f e).isLt; omega⟩) = Q e)
    (hB : ∀ s, ttab x6 x7 n (ix4 0 k s r) = B s)
    (hK : ∀ s e, tkv i x3 x4 x5 0 inb_S1x1024x512_S1x1024x256_0_0_0 slices_S128x512_o0_0_S128x256 n p hn hp (ix2 s (half 64 f e)) = K s e)
    (hY : ∀ s, tkv i x3 x4 x5 256 inb_S1x1024x512_S1x1024x256_0_0_256 slices_S128x512_o0_256_S128x256 n p hn hp (ix2 s l) = Y s) :
    tile i x0 x1 x2 x3 x4 x5 x6 x7 x8 n p hn hp (ix3 0 r l) = gated G (headOut (fun s => logit (K s) Q (B s)) (S * l2e) Y) W := by
  have hB' (s : Fin 256) := (pair_bias (ttab x6 x7 n) p (by omega) (by omega) f s r k hk).trans (hB s)
  have hS' := (pair_sink x0 p (by omega) (by omega) f k hk).trans hS
  have hG' := (tpart_apply x2 n p hn hp r l).trans hG
  have hW' := (tpart_apply x8 n p hn hp r l).trans hW
  have hQ' (e : Fin 64) := (tpart_apply x1 n p hn hp r (half 64 f e)).trans (hQ e)
  unfold tile
  refine (vpair_apply _ _ _ _ _ ![tbias (ttab x6 x7 n) (2 * p) (by omega), tbias (ttab x6 x7 n) (2 * p + 1) (by omega)]
    ![tsink x0 (2 * p) (by omega), tsink x0 (2 * p + 1) (by omega)] 0 r l f hf).trans ?_
  rw [hG', hW', hS']
  refine congrArg (fun z => gated G z W) ?_
  refine congr (congrFun (congrArg headOut ?_) _) (funext hY)
  funext s
  rw [hB' s]
  exact congrFun (congr (congrArg logit (funext fun e => hK s e)) (funext hQ')) _

set_option maxHeartbeats 1000000 in
/-- One element of a tile. -/
theorem tile_apply (t : Fin cfg0.N) (n p : Nat) (hn : n < 8) (hp : p < 8) (b : Fin 8) (hb : b.val = t.val / 4) (j : Fin 32)
    (hj : j.val = 8 * (t.val % 4) + n) (r l : Fin 128) (f : Fin 2) (hf : l.val / 64 = f.val) (k : Fin 16) (hk : k.val = 2 * p + f.val) (d : Fin 64) (hd : d.val = l.val % 64) :
    tile (grid0.coords t) (iblk m c 0 t) (X0_1 m c t) (iblk m c 2 t) (iblk m c 3 t) (iblk m c 4 t) (iblk m c 5 t) (iblk m c 6 t) (iblk m c 7 t) (iblk m c 8 t) n p hn hp (ix3 0 r l) =
      attK (fun b u i => m ((c : Thread nD τ).loc main_arg0) (ix3 b u i)) (fun b u i => m ((c : Thread nD τ).loc main_arg1) (ix3 b u i))
        (fun b u i => m ((c : Thread nD τ).loc main_arg2) (ix3 b u i)) (fun u i => m ((c : Thread nD τ).loc main_arg4) (ix2 u i))
        (fun u i => m ((c : Thread nD τ).loc main_arg5) (ix2 u i)) (fun b u i => m ((c : Thread nD τ).loc main_arg6) (ix3 b u i))
        (fun u i => m ((c : Thread nD τ).loc main_arg7) (ix2 u i)) (fun i => m ((c : Thread nD τ).loc main_arg8) (ix2 0 i))
        (fun b u i => m ((c : Thread nD τ).loc main_arg9) (ix3 b u i)) b j r k d := by
  have ht4 : t.val % 4 < 4 := Nat.mod_lt _ (by decide)
  have hf2 := f.isLt
  have hl : l = half 64 f d := Fin.ext (by dsimp only [half]; omega)
  have ecol : (⟨p * 128 + l.val, by omega⟩ : Fin 1024) = hcol k d := Fin.ext (by dsimp only [hcol]; omega)
  unfold attK
  refine tile_gen (grid0.coords t) (iblk m c 0 t) (X0_1 m c t) (iblk m c 2 t) (iblk m c 3 t) (iblk m c 4 t) (iblk m c 5 t) (iblk m c 6 t) (iblk m c 7 t) (iblk m c 8 t)
    n p hn hp r l f hf k hk _ _ _ _ _ _ _ ?_ ?_ ?_ ?_ ?_ ?_ ?_
  · rw [ecol]
    exact (blk_2 m c t _ _ b hb (prow j r) (by dsimp only [prow]; omega)).trans (congrFun (V_main_arg6 m c) _)
  · rw [ecol]
    exact (blk_8 m c t _ _ b hb (prow j r) (by dsimp only [prow]; omega)).trans (congrFun (V_main_arg9 m c) _)
  · exact (blk_0 m c t k).trans (V_sink m c k)
  · intro e
    have ec : (⟨p * 128 + (half 64 f e).val, by have := (half 64 f e).isLt; omega⟩ : Fin 1024) = hcol k e := Fin.ext (by dsimp only [hcol, half]; omega)
    rw [ec]
    exact (blk_1 m c t _ _ b hb (prow j r) (by dsimp only [prow]; omega)).trans (V_q m c b (prow j r) (hcol k e))
  · intro s
    exact ttab_apply m c t n hn j hj k s r
  · intro s e
    exact tkv_k m c t inb_S1x1024x512_S1x1024x256_0_0_0 slices_S128x512_o0_0_S128x256 n p hn hp b hb j hj s f e k (by omega)
  · intro s
    rw [hl]
    exact tkv_v m c t inb_S1x1024x512_S1x1024x256_0_0_256 slices_S128x512_o0_256_S128x256 n p hn hp b hb j hj s f d k (by omega)

end Cert.Att

end
-- ==== Proof.Att9.lean ====
module

public import proofs.«01_k».proof.Proof.Att8
public import proofs.«01_k».proof.Proof.Gen.KernelIdeal.Value

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- The block's formula from its tiles'. -/
theorem block_gen (i : grid0.Coords) (x0 : Vec Ideal S16 .f32) (x1 : Vec Ideal S1x1024x1024 .bf16) (x2 : Vec Ideal S1x1024x1024 .f32)
    (x3 : Vec Ideal S1x1024x512 .bf16) (x4 : Vec Ideal S1x128x512 .bf16) (x5 : Vec Ideal S128x512 .bf16)
    (x6 x7 : Vec Ideal S1x16x256x128 .f32) (x8 : Vec Ideal S1x1024x1024 .f32) (W : S1x1024x1024.Idx → EReal)
    (hW : ∀ (n p : Nat) (hn : n < 8) (hp : p < 8) (r l : Fin 128) (y : S1x1024x1024.Idx), (y 1).val = n * 128 + r.val → (y 2).val = p * 128 + l.val →
      tile i x0 x1 x2 x3 x4 x5 x6 x7 x8 n p hn hp (ix3 0 r l) = W y) (y : S1x1024x1024.Idx) :
    View.canon (Val := Elt Ideal) (e := .bf16) (tiles (tpiece i x0 x1 x2 x3 x4 x5 x6 x7 x8)) y = W y := by
  have key (n p : Nat) (hn : n < 8) (hp : p < 8) (y : S1x1024x1024.Idx) (x : S1x128x128.Idx)
      (h : ∀ a, (y a : Nat) = (![0, n * 128, p * 128] : Fin 3 → Nat) a + x a) : tile i x0 x1 x2 x3 x4 x5 x6 x7 x8 n p hn hp x = W y := by
    obtain ⟨a, b, d, rfl⟩ : ∃ a b d, x = ix3 a b d := ⟨x 0, x 1, x 2, eq_ix3 x⟩
    have ha : a = 0 := Fin.ext (by omega)
    rw [ha]
    exact hW n p hn hp b d y (h 1) (h 2)
  unfold tiles tpiece
  refine View.canon_eq_of_allAt _ y _ (View.cover_of_tiledBy _ ![1, 128, 128] (by sl_kernel_rfl) y) ?_
  repeat' (refine View.allAt_cons_unit _ _ _ _ _ (fun x h => key _ _ _ _ y x h) ?_)
  exact View.allAt_nil _ _

/-- One element of the array the kernel leaves, by its arguments. -/
def kval (b : Fin 8) (j : Fin 32) (r : Fin 128) (k : Fin 16) (d : Fin 64) : EReal :=
  attK (fun b u i => m ((c : Thread nD τ).loc main_arg0) (ix3 b u i)) (fun b u i => m ((c : Thread nD τ).loc main_arg1) (ix3 b u i))
    (fun b u i => m ((c : Thread nD τ).loc main_arg2) (ix3 b u i)) (fun u i => m ((c : Thread nD τ).loc main_arg4) (ix2 u i))
    (fun u i => m ((c : Thread nD τ).loc main_arg5) (ix2 u i)) (fun b u i => m ((c : Thread nD τ).loc main_arg6) (ix3 b u i))
    (fun u i => m ((c : Thread nD τ).loc main_arg7) (ix2 u i)) (fun i => m ((c : Thread nD τ).loc main_arg8) (ix2 0 i))
    (fun b u i => m ((c : Thread nD τ).loc main_arg9) (ix3 b u i)) b j r k d

/-- Equal places have equal elements. -/
theorem kval_congr {b b' : Fin 8} {j j' : Fin 32} {r r' : Fin 128} {k k' : Fin 16} {d d' : Fin 64} (hb : b.val = b'.val) (hj : j.val = j'.val)
    (hr : r.val = r'.val) (hk : k.val = k'.val) (hd : d.val = d'.val) : kval m c b j r k d = kval m c b' j' r' k' d' := by
  cases Fin.ext hb; cases Fin.ext hj; cases Fin.ext hr; cases Fin.ext hk; cases Fin.ext hd; rfl

/-- The block a step leaves. -/
theorem block9 (t : Fin cfg0.N) (y : S1x1024x1024.Idx) :
    View.canon (Val := Elt Ideal) (e := .bf16) (tiles (tpiece (grid0.coords t) (iblk m c 0 t) (X0_1 m c t) (iblk m c 2 t) (iblk m c 3 t) (iblk m c 4 t) (iblk m c 5 t) (iblk m c 6 t) (iblk m c 7 t) (iblk m c 8 t))) y =
      kval m c ⟨t.val / 4, by have : t.val < 32 := t.isLt; omega⟩ ⟨8 * (t.val % 4) + (y 1).val / 128, by idx_bounds y; omega⟩ ⟨(y 1).val % 128, by omega⟩
        ⟨(y 2).val / 64, by idx_bounds y; omega⟩ ⟨(y 2).val % 64, by omega⟩ := by
  refine block_gen (grid0.coords t) (iblk m c 0 t) (X0_1 m c t) (iblk m c 2 t) (iblk m c 3 t) (iblk m c 4 t) (iblk m c 5 t) (iblk m c 6 t) (iblk m c 7 t) (iblk m c 8 t)
    (fun y => kval m c ⟨t.val / 4, by have : t.val < 32 := t.isLt; omega⟩ ⟨8 * (t.val % 4) + (y 1).val / 128, by idx_bounds y; omega⟩ ⟨(y 1).val % 128, by omega⟩
        ⟨(y 2).val / 64, by idx_bounds y; omega⟩ ⟨(y 2).val % 64, by omega⟩) (fun n p hn hp r l y h1 h2 => ?_) y
  have ht : t.val < 32 := t.isLt
  refine (tile_apply m c t n p hn hp ⟨t.val / 4, by omega⟩ rfl ⟨8 * (t.val % 4) + n, by omega⟩ rfl r l ⟨l.val / 64, by omega⟩ rfl
    ⟨2 * p + l.val / 64, by omega⟩ rfl ⟨l.val % 64, by omega⟩ rfl).trans ?_
  exact kval_congr m c rfl (by dsimp only; omega) (by dsimp only; omega) (by dsimp only; omega) (by dsimp only; omega)

/-- The array the kernel leaves. -/
theorem final9 : (dats m 0 c).arrAt 9 cfg0.N = fun i : S8x4096x1024.Idx =>
    kval m c (i 0) ⟨(i 1).val / 128, by idx_bounds i; omega⟩ ⟨(i 1).val % 128, by omega⟩ ⟨(i 2).val / 64, by idx_bounds i; omega⟩ ⟨(i 2).val % 64, by omega⟩ := by
  refine (dats m 0 c).arrAt_eq_of_covers 9 _ (by decide +kernel) fun t hf y => ?_
  blk_simp
  rw [after0_9]
  unfold outsAt0
  dsimp only
  rw [out_eq]
  refine (block9 m c t y).trans ?_
  have i0 : win0_9.index t 0 = t.val / 4 := congrFun (widx t).2.2.2.2.2.2.2.2.2 0
  have i1 : win0_9.index t 1 = t.val % 4 := congrFun (widx t).2.2.2.2.2.2.2.2.2 1
  have i2 : win0_9.index t 2 = 0 := congrFun (widx t).2.2.2.2.2.2.2.2.2 2
  have y0 : (y 0).val < 1 := (y 0).isLt
  refine kval_congr m c ?_ ?_ ?_ ?_ ?_
  · exact ((by blk_simp : (((View.whole main_v80).slice (win0_9.rect t)).emb y 0 : Nat) = win0_9.index t 0 * 1 + (y 0).val).trans
      ((congrArg (fun z => z * 1 + (y 0).val) i0).trans (by omega : t.val / 4 * 1 + (y 0).val = t.val / 4))).symm
  · exact (by omega : 8 * (t.val % 4) + (y 1).val / 128 = (t.val % 4 * 1024 + (y 1).val) / 128).trans (congrArg (fun z => (z * 1024 + (y 1).val) / 128) i1.symm)
  · exact (by omega : (y 1).val % 128 = (t.val % 4 * 1024 + (y 1).val) % 128).trans (congrArg (fun z => (z * 1024 + (y 1).val) % 128) i1.symm)
  · exact (by omega : (y 2).val / 64 = (0 * 1024 + (y 2).val) / 64).trans (congrArg (fun z => (z * 1024 + (y 2).val) / 64) i2.symm)
  · exact (by omega : (y 2).val % 64 = (0 * 1024 + (y 2).val) % 64).trans (congrArg (fun z => (z * 1024 + (y 2).val) % 64) i2.symm)

end Cert.Att

end
-- ==== Proof.Ref1.lean ====
module

public import proofs.«01_k».proof.Proof.Form
public import proofs.«01_k».proof.Proof.Gen.ReferenceIdeal.Read
public import Idealize.ShloMosaic.Lib.ValueIdxRank6
public import Idealize.ShloMosaic.Lib.Pipeline.ValueKit
public import Idealize.ShloMosaic.Lib.KernelVsHost

@[expose] public section

set_option maxRecDepth 16384

noncomputable section

namespace Cert.Att.Ref

open Cert.ReferenceIdeal Cert.ReferenceIdeal.Read Idealize.ShloMosaic

variable (x0 : (⟨S8x4096x1024, .f32⟩ : BufTy).Contents (Elt Ideal)) (x1 x2 : (⟨S8x4096x128, .f32⟩ : BufTy).Contents (Elt Ideal))
  (x3 : (⟨S16x1024, .f32⟩ : BufTy).Contents (Elt Ideal)) (x4 x5 : (⟨S16x128, .f32⟩ : BufTy).Contents (Elt Ideal))

/-- The queries with the meta tokens' before: a sequence's row. -/
theorem v2_apply (b : Fin 8) (u : Fin 4112) (hu : 16 ≤ u.val) (i : Fin 1024) : val_main_v2 (F := Ideal) x0 x3 (ix3 b u i) = x0 (ix3 b ⟨u.val - 16, by omega⟩ i) := by
  unfold val_main_v2
  generalize val_main_v1 (F := Ideal) x3 = y
  pointwise []
  rw [dif_neg (by omega)]

/-- The padded queries: a sequence's row. -/
theorem v13_apply (b : Fin 8) (u : Fin 4224) (hu : 128 ≤ u.val) (g : Fin 2) (q : Fin 8) (d : Fin 64) :
    val_main_v13 (F := Ideal) x0 x3 (ix5 b u g q d) = x0 (ix3 b ⟨u.val - 128, by omega⟩ ⟨64 * (8 * g.val + q.val) + d.val, by omega⟩) := by
  unfold val_main_v13
  refine (pad_apply_of_inside _ _ _ _ _ _ _ (ix5 b u g q d) (ix5 b ⟨u.val - 112, by omega⟩ g q d) ?_).trans ?_
  · intro a
    fin_cases a
    · show b.val = 0 + b.val * 1
      omega
    · show u.val = 112 + (u.val - 112) * 1
      omega
    · show g.val = 0 + g.val * 1
      omega
    · show q.val = 0 + q.val * 1
      omega
    · show d.val = 0 + d.val * 1
      omega
  refine (val_main_v3_apply x0 x3 _).trans ?_
  refine Eq.trans (congrArg _ ?_) ((v2_apply x0 x3 b ⟨u.val - 112, by omega⟩ (by dsimp only; omega) ⟨64 * (8 * g.val + q.val) + d.val, by omega⟩).trans ?_)
  · have := b.isLt; have := u.isLt; have := g.isLt; have := q.isLt; have := d.isLt
    funext a
    refine Fin.ext ?_
    fin_cases a
    · show ((((b.val * 4112 + (u.val - 112)) * 2 + g.val) * 8 + q.val) * 64 + d.val) / 4210688 = b.val
      omega
    · show ((((b.val * 4112 + (u.val - 112)) * 2 + g.val) * 8 + q.val) * 64 + d.val) / 1024 % 4112 = u.val - 112
      omega
    · show ((((b.val * 4112 + (u.val - 112)) * 2 + g.val) * 8 + q.val) * 64 + d.val) % 1024 = 64 * (8 * g.val + q.val) + d.val
      omega
  · exact congrArg (fun z => x0 (ix3 b z _)) (Fin.ext (by dsimp only; omega))

/-- The queries in blocks. -/
theorem v14_apply (b : Fin 8) (j : Fin 32) (r : Fin 128) (g : Fin 2) (q : Fin 8) (d : Fin 64) (n : Fin 33) (hn : n.val = j.val + 1) (h : Fin 16) (hh : h.val = 8 * g.val + q.val) :
    val_main_v14 (F := Ideal) x0 x3 (ix6 b n r g q d) = x0 (ix3 b (prow j r) (hcol h d)) := by
  have := b.isLt; have := n.isLt; have := g.isLt; have := q.isLt; have := d.isLt; have := r.isLt
  unfold val_main_v14
  refine (shapeCast_apply _ _ (ix6 b n r g q d) (ix5 b ⟨128 * n.val + r.val, by omega⟩ g q d) ?_).trans ?_
  · rw [Shape.rowMajor_val_five, Shape.rowMajor_val_six]
    show (((b.val * 4224 + (128 * n.val + r.val)) * 2 + g.val) * 8 + q.val) * 64 + d.val = ((((b.val * 33 + n.val) * 128 + r.val) * 2 + g.val) * 8 + q.val) * 64 + d.val
    omega
  refine (v13_apply x0 x3 b _ (by dsimp only; omega) g q d).trans ?_
  exact congrArg₂ (fun z w => x0 (ix3 b z w)) (Fin.ext (by dsimp only [prow]; omega)) (Fin.ext (by dsimp only [hcol]; omega))

/-- The meta tokens' keys, once per batch. -/
theorem v5_apply (b : Fin 8) (u : Fin 16) (i : Fin 128) : val_main_v5 (F := Ideal) x4 (ix3 b u i) = x4 (ix2 u i) := by
  refine (val_main_v5_apply x4 _).trans ((val_main_v4_apply x4 _).trans (congrArg x4 ?_))
  funext a
  fin_cases a <;> rfl

/-- The keys with the meta tokens' before. -/
theorem v6_apply (b : Fin 8) (u : Fin 4112) (i : Fin 128) : val_main_v6 (F := Ideal) x1 x4 (ix3 b u i) =
    if h : u.val < 16 then x4 (ix2 ⟨u.val, h⟩ i) else x1 (ix3 b ⟨u.val - 16, by omega⟩ i) := by
  have hy := v5_apply x4
  unfold val_main_v6
  revert hy
  generalize val_main_v5 (F := Ideal) x4 = y
  intro hy
  pointwise []
  by_cases h : u.val < 16
  · rw [dif_pos h, dif_pos h]
    exact hy _ _ _
  · rw [dif_neg h, dif_neg h]

/-- The keys with the meta tokens' before, by groups. -/
theorem v7_apply (b : Fin 8) (u : Fin 4112) (f : Fin 2) (e : Fin 64) : val_main_v7 (F := Ideal) x1 x4 (ix4 b u f e) =
    val_main_v6 (F := Ideal) x1 x4 (ix3 b u ⟨64 * f.val + e.val, by omega⟩) := by
  have := b.isLt; have := u.isLt; have := f.isLt; have := e.isLt
  unfold val_main_v7
  refine shapeCast_apply _ _ (ix4 b u f e) (ix3 b u ⟨64 * f.val + e.val, by omega⟩) ?_
  rw [Shape.rowMajor_val_three, Shape.rowMajor_val_four]
  show (b.val * 4112 + u.val) * 128 + (64 * f.val + e.val) = ((b.val * 4112 + u.val) * 2 + f.val) * 64 + e.val
  omega

/-- The padded keys. -/
theorem v15_apply (b : Fin 8) (u : Fin 4352) (f : Fin 2) (e : Fin 64) : val_main_v15 (F := Ideal) x1 x4 (ix4 b u f e) =
    if h : u.val < 240 then 0 else val_main_v7 (F := Ideal) x1 x4 (ix4 b ⟨u.val - 240, by omega⟩ f e) := by
  unfold val_main_v15
  by_cases h : u.val < 240
  · rw [dif_pos h]
    refine (pad_apply_of_not_inside _ _ _ _ _ _ _ (ix4 b u f e) 1 ?_).trans ?_
    · intro hh
      have h1 : 240 ≤ u.val := hh.1
      omega
    · show (((0#32 : BitVec 32).toInt : ℝ) : EReal) = 0
      have : (0#32 : BitVec 32).toInt = 0 := by decide
      rw [this]
      norm_num
  · rw [dif_neg h]
    refine pad_apply_of_inside _ _ _ _ _ _ _ (ix4 b u f e) (ix4 b ⟨u.val - 240, by omega⟩ f e) ?_
    intro a
    fin_cases a
    · show b.val = 0 + b.val * 1
      omega
    · show u.val = 240 + (u.val - 240) * 1
      omega
    · show f.val = 0 + f.val * 1
      omega
    · show e.val = 0 + e.val * 1
      omega

/-- The padded keys, in blocks. -/
theorem v16_apply (b : Fin 8) (n : Fin 34) (l : Fin 128) (f : Fin 2) (e : Fin 64) : val_main_v16 (F := Ideal) x1 x4 (ix5 b n l f e) =
    val_main_v15 (F := Ideal) x1 x4 (ix4 b ⟨128 * n.val + l.val, by omega⟩ f e) := by
  have := b.isLt; have := n.isLt; have := l.isLt; have := f.isLt; have := e.isLt
  unfold val_main_v16
  refine shapeCast_apply _ _ (ix5 b n l f e) (ix4 b ⟨128 * n.val + l.val, by omega⟩ f e) ?_
  rw [Shape.rowMajor_val_four, Shape.rowMajor_val_five]
  show ((b.val * 4352 + (128 * n.val + l.val)) * 2 + f.val) * 64 + e.val = (((b.val * 34 + n.val) * 128 + l.val) * 2 + f.val) * 64 + e.val
  omega

/-- A block's and the block's before. -/
theorem v19_cat (b : Fin 8) (n : Fin 33) (s : Fin 256) (f : Fin 2) (e : Fin 64) : val_main_v19 (F := Ideal) x1 x4 (ix5 b n s f e) =
    if h : s.val < 128 then val_main_v17 (F := Ideal) x1 x4 (ix5 b n ⟨s.val, h⟩ f e) else val_main_v18 (F := Ideal) x1 x4 (ix5 b n ⟨s.val - 128, by omega⟩ f e) := by
  unfold val_main_v19
  generalize val_main_v17 (F := Ideal) x1 x4 = y
  generalize val_main_v18 (F := Ideal) x1 x4 = z
  pointwise []

/-- A window of keys, by the padded keys' rows. -/
theorem v19_row (b : Fin 8) (n : Fin 33) (s : Fin 256) (f : Fin 2) (e : Fin 64) : val_main_v19 (F := Ideal) x1 x4 (ix5 b n s f e) =
    val_main_v15 (F := Ideal) x1 x4 (ix4 b ⟨128 * n.val + s.val, by omega⟩ f e) := by
  refine (v19_cat x1 x4 b n s f e).trans ?_
  by_cases h : s.val < 128
  · rw [dif_pos h]
    refine (val_main_v17_apply x1 x4 _).trans (Eq.trans (congrArg _ ?_) (v16_apply x1 x4 b ⟨n.val, by omega⟩ ⟨s.val, h⟩ f e))
    funext a
    fin_cases a <;> rfl
  · rw [dif_neg h]
    refine (val_main_v18_apply x1 x4 _).trans (Eq.trans (congrArg _ ?_) ((v16_apply x1 x4 b ⟨1 + n.val, by omega⟩ ⟨s.val - 128, by omega⟩ f e).trans ?_))
    · funext a
      fin_cases a <;> rfl
    · exact congrArg (fun z => val_main_v15 (F := Ideal) x1 x4 (ix4 b z f e)) (Fin.ext (by show 128 * (1 + n.val) + (s.val - 128) = 128 * n.val + s.val; omega))

/-- A window of keys. -/
theorem v19_apply (b : Fin 8) (j : Fin 32) (n : Fin 33) (hn : n.val = j.val + 1) (s : Fin 256) (f : Fin 2) (h : Fin 16) (hf : h.val / 8 = f.val) (e : Fin 64) :
    val_main_v19 (F := Ideal) x1 x4 (ix5 b n s f e) = win (fun u => x1 (ix3 b u (kcol h e))) (fun u => x4 (ix2 u (kcol h e))) j s := by
  have hc : (⟨64 * f.val + e.val, by omega⟩ : Fin 128) = kcol h e := Fin.ext (by show 64 * f.val + e.val = 64 * (h.val / 8) + e.val; omega)
  refine (v19_row x1 x4 b n s f e).trans ((v15_apply x1 x4 b _ f e).trans ?_)
  unfold win
  dsimp only
  by_cases h1 : 128 * n.val + s.val < 240
  · rw [dif_pos h1, dif_pos (by omega), dif_neg (by omega)]
  · rw [dif_neg h1]
    refine (v7_apply x1 x4 b _ f e).trans ((v6_apply x1 x4 b _ _).trans ?_)
    dsimp only
    by_cases h2 : 128 * n.val + s.val - 240 < 16
    · rw [dif_pos h2, dif_pos (by omega), dif_pos (by omega)]
      exact congrArg₂ (fun z w => x4 (ix2 z w)) (Fin.ext (by dsimp only; omega)) hc
    · rw [dif_neg h2, dif_neg (by omega)]
      exact congrArg₂ (fun z w => x1 (ix3 b z w)) (Fin.ext (by dsimp only; omega)) hc

/-- The meta tokens' values, once per batch. -/
theorem v9_apply (b : Fin 8) (u : Fin 16) (i : Fin 128) : val_main_v9 (F := Ideal) x5 (ix3 b u i) = x5 (ix2 u i) := by
  refine (val_main_v9_apply x5 _).trans ((val_main_v8_apply x5 _).trans (congrArg x5 ?_))
  funext a
  fin_cases a <;> rfl

/-- The values with the meta tokens' before. -/
theorem v10_apply (b : Fin 8) (u : Fin 4112) (i : Fin 128) : val_main_v10 (F := Ideal) x2 x5 (ix3 b u i) =
    if h : u.val < 16 then x5 (ix2 ⟨u.val, h⟩ i) else x2 (ix3 b ⟨u.val - 16, by omega⟩ i) := by
  have hy := v9_apply x5
  unfold val_main_v10
  revert hy
  generalize val_main_v9 (F := Ideal) x5 = y
  intro hy
  pointwise []
  by_cases h : u.val < 16
  · rw [dif_pos h, dif_pos h]
    exact hy _ _ _
  · rw [dif_neg h, dif_neg h]

/-- The values with the meta tokens' before, by groups. -/
theorem v11_apply (b : Fin 8) (u : Fin 4112) (f : Fin 2) (e : Fin 64) : val_main_v11 (F := Ideal) x2 x5 (ix4 b u f e) =
    val_main_v10 (F := Ideal) x2 x5 (ix3 b u ⟨64 * f.val + e.val, by omega⟩) := by
  have := b.isLt; have := u.isLt; have := f.isLt; have := e.isLt
  unfold val_main_v11
  refine shapeCast_apply _ _ (ix4 b u f e) (ix3 b u ⟨64 * f.val + e.val, by omega⟩) ?_
  rw [Shape.rowMajor_val_three, Shape.rowMajor_val_four]
  show (b.val * 4112 + u.val) * 128 + (64 * f.val + e.val) = ((b.val * 4112 + u.val) * 2 + f.val) * 64 + e.val
  omega

/-- The padded values. -/
theorem v20_apply (b : Fin 8) (u : Fin 4352) (f : Fin 2) (e : Fin 64) : val_main_v20 (F := Ideal) x2 x5 (ix4 b u f e) =
    if h : u.val < 240 then 0 else val_main_v11 (F := Ideal) x2 x5 (ix4 b ⟨u.val - 240, by omega⟩ f e) := by
  unfold val_main_v20
  by_cases h : u.val < 240
  · rw [dif_pos h]
    refine (pad_apply_of_not_inside _ _ _ _ _ _ _ (ix4 b u f e) 1 ?_).trans ?_
    · intro hh
      have h1 : 240 ≤ u.val := hh.1
      omega
    · show (((0#32 : BitVec 32).toInt : ℝ) : EReal) = 0
      have : (0#32 : BitVec 32).toInt = 0 := by decide
      rw [this]
      norm_num
  · rw [dif_neg h]
    refine pad_apply_of_inside _ _ _ _ _ _ _ (ix4 b u f e) (ix4 b ⟨u.val - 240, by omega⟩ f e) ?_
    intro a
    fin_cases a
    · show b.val = 0 + b.val * 1
      omega
    · show u.val = 240 + (u.val - 240) * 1
      omega
    · show f.val = 0 + f.val * 1
      omega
    · show e.val = 0 + e.val * 1
      omega

/-- The padded values, in blocks. -/
theorem v21_apply (b : Fin 8) (n : Fin 34) (l : Fin 128) (f : Fin 2) (e : Fin 64) : val_main_v21 (F := Ideal) x2 x5 (ix5 b n l f e) =
    val_main_v20 (F := Ideal) x2 x5 (ix4 b ⟨128 * n.val + l.val, by omega⟩ f e) := by
  have := b.isLt; have := n.isLt; have := l.isLt; have := f.isLt; have := e.isLt
  unfold val_main_v21
  refine shapeCast_apply _ _ (ix5 b n l f e) (ix4 b ⟨128 * n.val + l.val, by omega⟩ f e) ?_
  rw [Shape.rowMajor_val_four, Shape.rowMajor_val_five]
  show ((b.val * 4352 + (128 * n.val + l.val)) * 2 + f.val) * 64 + e.val = (((b.val * 34 + n.val) * 128 + l.val) * 2 + f.val) * 64 + e.val
  omega

/-- A block's and the block's before. -/
theorem v24_cat (b : Fin 8) (n : Fin 33) (s : Fin 256) (f : Fin 2) (e : Fin 64) : val_main_v24 (F := Ideal) x2 x5 (ix5 b n s f e) =
    if h : s.val < 128 then val_main_v22 (F := Ideal) x2 x5 (ix5 b n ⟨s.val, h⟩ f e) else val_main_v23 (F := Ideal) x2 x5 (ix5 b n ⟨s.val - 128, by omega⟩ f e) := by
  unfold val_main_v24
  generalize val_main_v22 (F := Ideal) x2 x5 = y
  generalize val_main_v23 (F := Ideal) x2 x5 = z
  pointwise []

/-- A window of values, by the padded values' rows. -/
theorem v24_row (b : Fin 8) (n : Fin 33) (s : Fin 256) (f : Fin 2) (e : Fin 64) : val_main_v24 (F := Ideal) x2 x5 (ix5 b n s f e) =
    val_main_v20 (F := Ideal) x2 x5 (ix4 b ⟨128 * n.val + s.val, by omega⟩ f e) := by
  refine (v24_cat x2 x5 b n s f e).trans ?_
  by_cases h : s.val < 128
  · rw [dif_pos h]
    refine (val_main_v22_apply x2 x5 _).trans (Eq.trans (congrArg _ ?_) (v21_apply x2 x5 b ⟨n.val, by omega⟩ ⟨s.val, h⟩ f e))
    funext a
    fin_cases a <;> rfl
  · rw [dif_neg h]
    refine (val_main_v23_apply x2 x5 _).trans (Eq.trans (congrArg _ ?_) ((v21_apply x2 x5 b ⟨1 + n.val, by omega⟩ ⟨s.val - 128, by omega⟩ f e).trans ?_))
    · funext a
      fin_cases a <;> rfl
    · exact congrArg (fun z => val_main_v20 (F := Ideal) x2 x5 (ix4 b z f e)) (Fin.ext (by show 128 * (1 + n.val) + (s.val - 128) = 128 * n.val + s.val; omega))

/-- A window of values. -/
theorem v24_apply (b : Fin 8) (j : Fin 32) (n : Fin 33) (hn : n.val = j.val + 1) (s : Fin 256) (f : Fin 2) (h : Fin 16) (hf : h.val / 8 = f.val) (e : Fin 64) :
    val_main_v24 (F := Ideal) x2 x5 (ix5 b n s f e) = win (fun u => x2 (ix3 b u (kcol h e))) (fun u => x5 (ix2 u (kcol h e))) j s := by
  have hc : (⟨64 * f.val + e.val, by omega⟩ : Fin 128) = kcol h e := Fin.ext (by show 64 * f.val + e.val = 64 * (h.val / 8) + e.val; omega)
  refine (v24_row x2 x5 b n s f e).trans ((v20_apply x2 x5 b _ f e).trans ?_)
  unfold win
  dsimp only
  by_cases h1 : 128 * n.val + s.val < 240
  · rw [dif_pos h1, dif_pos (by omega), dif_neg (by omega)]
  · rw [dif_neg h1]
    refine (v11_apply x2 x5 b _ f e).trans ((v10_apply x2 x5 b _ _).trans ?_)
    dsimp only
    by_cases h2 : 128 * n.val + s.val - 240 < 16
    · rw [dif_pos h2, dif_pos (by omega), dif_pos (by omega)]
      exact congrArg₂ (fun z w => x5 (ix2 z w)) (Fin.ext (by dsimp only; omega)) hc
    · rw [dif_neg h2, dif_neg (by omega)]
      exact congrArg₂ (fun z w => x2 (ix3 b z w)) (Fin.ext (by dsimp only; omega)) hc

end Cert.Att.Ref

end
-- ==== Proof.Ref2.lean ====
module

public import proofs.«01_k».proof.Proof.Form
public import proofs.«01_k».proof.Proof.Gen.ReferenceIdeal.Read
public import Idealize.ShloMosaic.Lib.ValueIdxRank6
public import Idealize.ShloMosaic.Lib.Pipeline.ValueKit
public import Idealize.ShloMosaic.Lib.KernelVsHost

@[expose] public section

set_option maxRecDepth 16384

noncomputable section

namespace Cert.Att.Ref

open Cert.ReferenceIdeal Cert.ReferenceIdeal.Read Idealize.ShloMosaic

variable (x7 : (⟨S32x16, .f32⟩ : BufTy).Contents (Elt Ideal))

/-- The distances. -/
theorem v37_apply (r : Fin 128) (s : Fin 256) : val_main_v37 (F := Ideal) (ix2 r s) = dist r s := by
  simp only [val_main_v37_apply, val_main_v36_apply, val_main_v35_apply, val_main_v34_apply, val_main_v33_apply, val_main_v32_apply, val_main_v31_apply, val_main_v30_apply, val_main_v29_apply, val_main_c_2_apply]
  rfl

/-- The window. -/
theorem v42_apply (r : Fin 128) (s : Fin 256) : val_main_v42 (F := Ideal) (ix2 r s) = inwin r s := by
  simp only [val_main_v42_apply, val_main_v41_apply, val_main_v40_apply, val_main_v39_apply, val_main_v38_apply, val_main_c_3_apply, val_main_c_4_apply, v37_apply]
  rfl

/-- The distances that are not negative. -/
theorem v44_apply (r : Fin 128) (s : Fin 256) : val_main_v44 (F := Ideal) (ix2 r s) = IntOp.maxsi (dist r s) 0#32 := by
  simp only [val_main_v44_apply, val_main_v43_apply, val_main_c_5_apply, v37_apply]

/-- The buckets. -/
theorem v62_apply (r : Fin 128) (s : Fin 256) : val_main_v62 (F := Ideal) (ix2 r s) = bucket (dist r s) := by
  simp only [val_main_v62_apply, val_main_v61_apply, val_main_v60_apply, val_main_v59_apply, val_main_v58_apply, val_main_v57_apply, val_main_v56_apply,
    val_main_v55_apply, val_main_v54_apply, val_main_v53_apply, val_main_v52_apply, val_main_v51_apply, val_main_v50_apply, val_main_v49_apply, val_main_v48_apply,
    val_main_v47_apply, val_main_v46_apply, val_main_v45_apply, val_main_c_6_apply, val_main_c_7_apply, val_main_c_11_apply, val_main_c_12_apply,
    val_main_cst_8_apply, val_main_cst_9_apply, val_main_cst_10_apply, v44_apply]
  rfl

/-- A choice by a mask that is not set. -/
theorem select_zero (x y : BitVec 32) : Scalar.select 0#1 x y = y := rfl

/-- The gather's rows. -/
theorem v67_apply (r : Fin 128) (s : Fin 256) : val_main_v67 (F := Ideal) (ix2 r s) = bucket (dist r s) := by
  have e : val_main_v64 (F := Ideal) (ix2 r s) = 0#1 := by
    rw [val_main_v64_apply, val_main_v63_apply, val_main_c_13_apply, v62_apply]
    exact bucket_nonneg (dist r s) (dist_le r s)
  rw [val_main_v67_apply, e, v62_apply]
  exact select_zero _ _

/-- A gather of rows of the relative bias. -/
theorem gather_r (x : S32x16.Idx → EReal) (I : IVec S128x256x1 32) (r : Fin 128) (s : Fin 256) (h : Fin 16) :
    Host.gather gather_S32x16_S128x256x1_S128x256x16_2_0_n_n_0_2_116 x I (ix3 r s h) = x (ix2 ⟨min (I (ix3 r s 0)).toInt.toNat 31, by omega⟩ h) := by
  unfold Host.gather
  congr 1
  funext a
  refine Fin.ext ?_
  fin_cases a
  · show GatherDims.start _ _ _ _ + GatherDims.batchCoord _ _ _ + GatherDims.offCoord _ _ _ = _
    have : GatherDims.siIdx gather_S32x16_S128x256x1_S128x256x16_2_0_n_n_0_2_116 (ix3 r s h) ⟨0, by decide⟩ = ix3 r s 0 := by
      funext b; refine Fin.ext ?_
      fin_cases b <;> rfl
    exact congrArg (fun z => min (I z).toInt.toNat 31) this
  · show GatherDims.start _ _ _ _ + GatherDims.batchCoord _ _ _ + GatherDims.offCoord _ _ _ = h.val
    exact Nat.zero_add _

/-- The bias of a query and a key. -/
theorem v69_apply (r : Fin 128) (s : Fin 256) (h : Fin 16) : val_main_v69 (F := Ideal) x7 (ix3 r s h) = x7 (ix2 (brow r s) h) := by
  have e : val_main_v68 (F := Ideal) (ix3 r s 0) = bucket (dist r s) := by
    refine (val_main_v68_apply _).trans (Eq.trans (congrArg _ ?_) (v67_apply r s))
    funext a
    fin_cases a <;> rfl
  unfold val_main_v69
  revert e
  generalize val_main_v68 (F := Ideal) = I
  intro e
  refine (gather_r x7 I r s h).trans (congrArg (fun z => x7 (ix2 z h)) (Fin.ext ?_))
  show min (I (ix3 r s 0)).toInt.toNat 31 = min (bucket (dist r s)).toInt.toNat 31
  rw [e]

/-- The bias, broadcast. -/
theorem v89_apply (b : Fin 8) (g : Fin 2) (q : Fin 8) (n : Fin 33) (r : Fin 128) (s : Fin 256) (h : Fin 16) (hh : h.val = 8 * g.val + q.val) :
    val_main_v89 (F := Ideal) x7 (ix6 b g q n r s) = x7 (ix2 (brow r s) h) := by
  have := g.isLt; have := q.isLt; have := r.isLt; have := s.isLt
  refine (val_main_v89_apply x7 _).trans ((val_main_v88_apply x7 _).trans ?_)
  refine Eq.trans (congrArg _ (?_ : _ = ix5 g q 0 r s)) ?_
  · funext a
    fin_cases a <;> rfl
  unfold val_main_v71
  refine (shapeCast_apply _ _ (ix5 g q 0 r s) (ix3 h r s) ?_).trans ?_
  · rw [Shape.rowMajor_val_three, Shape.rowMajor_val_five]
    show (h.val * 128 + r.val) * 256 + s.val = (((g.val * 8 + q.val) * 1 + 0) * 128 + r.val) * 256 + s.val
    omega
  refine (val_main_v70_apply x7 _).trans (Eq.trans (congrArg _ ?_) (v69_apply x7 r s h))
  funext a
  fin_cases a <;> rfl

/-- A key's place is past the padding. -/
theorem sge_240 (n : Fin 33) (s : Fin 256) :
    IntOp.cmpi .sge (IntOp.addi (IntOp.muli (BitVec.ofNat 32 n.val) 128#32) (BitVec.ofNat 32 s.val)) 240#32 = 1#1 ↔ 240 ≤ 128 * n.val + s.val := by
  revert n s; decide +kernel

/-- A conjunction of two masks. -/
theorem andi_both (x y : BitVec 1) : IntOp.andi x y = 1#1 ↔ x = 1#1 ∧ y = 1#1 := by
  revert x y; decide

/-- The mask of the keys past the padding. -/
theorem v82_apply (n : Fin 33) (s : Fin 256) : val_main_v82 (F := Ideal) (ix2 n s) =
    IntOp.cmpi .sge (IntOp.addi (IntOp.muli (BitVec.ofNat 32 n.val) 128#32) (BitVec.ofNat 32 s.val)) 240#32 := by
  simp only [val_main_v82_apply, val_main_v81_apply, val_main_v80_apply, val_main_v79_apply, val_main_v78_apply, val_main_v77_apply, val_main_v76_apply,
    val_main_v75_apply, val_main_v74_apply, val_main_v73_apply, val_main_v72_apply, val_main_c_15_apply, val_main_c_16_apply]
  rfl

/-- The mask. -/
theorem v87_apply (n : Fin 33) (j : Fin 32) (hn : n.val = j.val + 1) (r : Fin 128) (s : Fin 256) : val_main_v87 (F := Ideal) (ix3 n r s) = 1#1 ↔ ok j r s := by
  have e1 : val_main_v85 (F := Ideal) (ix3 n r s) = inwin r s := by
    refine (val_main_v85_apply _).trans ((val_main_v83_apply _).trans (Eq.trans (congrArg _ ?_) (v42_apply r s)))
    funext a
    fin_cases a <;> rfl
  have e2 : val_main_v86 (F := Ideal) (ix3 n r s) = IntOp.cmpi .sge (IntOp.addi (IntOp.muli (BitVec.ofNat 32 n.val) 128#32) (BitVec.ofNat 32 s.val)) 240#32 := by
    refine (val_main_v86_apply _).trans ((val_main_v84_apply _).trans (Eq.trans (congrArg _ ?_) (v82_apply n s)))
    funext a
    fin_cases a <;> rfl
  rw [val_main_v87_apply, e1, e2, andi_both, sge_240]
  unfold ok
  constructor
  · rintro ⟨h1, h2⟩
    exact ⟨h1, by omega⟩
  · rintro ⟨h1, h2⟩
    exact ⟨h1, by omega⟩

end Cert.Att.Ref

end
-- ==== Proof.Ref3.lean ====
module

public import proofs.«01_k».proof.Proof.Ref1
public import proofs.«01_k».proof.Proof.Ref2

@[expose] public section

set_option maxRecDepth 16384

noncomputable section

namespace Cert.Att.Ref

open Cert.ReferenceIdeal Cert.ReferenceIdeal.Gen Cert.ReferenceIdeal.Read Idealize.ShloMosaic

variable (x0 : (⟨S8x4096x1024, .f32⟩ : BufTy).Contents (Elt Ideal)) (x1 x2 : (⟨S8x4096x128, .f32⟩ : BufTy).Contents (Elt Ideal))
  (x3 : (⟨S16x1024, .f32⟩ : BufTy).Contents (Elt Ideal)) (x4 x5 : (⟨S16x128, .f32⟩ : BufTy).Contents (Elt Ideal))
  (x6 : (⟨S8x4096x1024, .f32⟩ : BufTy).Contents (Elt Ideal)) (x7 : (⟨S32x16, .f32⟩ : BufTy).Contents (Elt Ideal))
  (x8 : (⟨S1x16, .f32⟩ : BufTy).Contents (Elt Ideal)) (x9 : (⟨S8x4096x1024, .f32⟩ : BufTy).Contents (Elt Ideal))

/-- Minus infinity, as a constant. -/
theorem neg_inf : Ideal.ofBits FTy.f32 0xFF800000#32 = ⊥ := by simp [Ideal.ofBits, Ideal.ieee]

/-- One, as a constant. -/
theorem one_bits : Ideal.ofBits FTy.f32 0x3F800000#32 = 1 := by
  simp [Ideal.ofBits, Ideal.ieee]
  rw [← EReal.coe_mul]
  norm_num

/-- The score of a query and a key of its window. -/
def lg (b : Fin 8) (j : Fin 32) (r : Fin 128) (h : Fin 16) (s : Fin 256) : EReal :=
  if ok j r s then
    (∑ e : Fin 64, win (fun u => x1 (ix3 b u (kcol h e))) (fun u => x4 (ix2 u (kcol h e))) j s * x0 (ix3 b (prow j r) (hcol h e))) * Ideal.ofBits FTy.f32 0x3E000000#32
      + x7 (ix2 (brow r s) h) else ⊥

/-- The largest score of a query, its sink with them. -/
def mx (b : Fin 8) (j : Fin 32) (r : Fin 128) (h : Fin 16) : EReal := max (Finset.fold max ⊥ (lg x0 x1 x4 x7 b j r h) Finset.univ) (x8 (ix2 0 h))

section

variable (b : Fin 8) (j : Fin 32) (n : Fin 33) (hn : n.val = j.val + 1) (r : Fin 128) (g : Fin 2) (q : Fin 8) (h : Fin 16) (hh : h.val = 8 * g.val + q.val)

include hn hh in
/-- The scaled products. -/
theorem v28_apply (s : Fin 256) : val_main_v28 (F := Ideal) x0 x1 x3 x4 (ix6 b g q n r s) =
    (∑ e : Fin 64, win (fun u => x1 (ix3 b u (kcol h e))) (fun u => x4 (ix2 u (kcol h e))) j s * x0 (ix3 b (prow j r) (hcol h e))) * Ideal.ofBits FTy.f32 0x3E000000#32 := by
  have e27 : val_main_v27 (F := Ideal) (ix6 b g q n r s) = Ideal.ofBits FTy.f32 0x3E000000#32 := by
    rw [val_main_v27_apply]; rfl
  rw [val_main_v28_apply, e27]
  refine congrArg (fun z : EReal => z * Ideal.ofBits FTy.f32 0x3E000000#32) ?_
  refine (val_main_v26_apply x0 x1 x3 x4 _).trans ((val_main_v25_apply x0 x1 x3 x4 _).trans (Finset.sum_congr rfl fun e _ => congrArg₂ (fun y z : EReal => y * z) ?_ ?_))
  · refine Eq.trans (congrArg _ ?_) (v19_apply x1 x4 b j n hn s g h (by omega) e)
    funext a
    fin_cases a <;> rfl
  · refine Eq.trans (congrArg _ ?_) (v14_apply x0 x3 b j r g q e n hn h hh)
    funext a
    fin_cases a <;> rfl

include hn hh in
/-- The scores. -/
theorem v91_apply (s : Fin 256) : val_main_v91 (F := Ideal) x0 x1 x3 x4 x7 (ix6 b g q n r s) = lg x0 x1 x4 x7 b j r h s := by
  have em : val_main_call4_v3 (F := Ideal) (ix6 b g q n r s) = val_main_v87 (F := Ideal) (ix3 n r s) := by
    refine (val_main_call4_v3_apply _).trans ((val_main_call4_v1_apply _).trans (congrArg _ ?_))
    funext a
    fin_cases a <;> rfl
  have eb : val_main_call4_v4 (F := Ideal) (ix6 b g q n r s) = (⊥ : EReal) := by
    rw [val_main_call4_v4_apply, val_main_call4_v2_apply, val_main_call4_v0_apply, val_main_cst_17_apply]
    exact neg_inf
  rw [val_main_v91_apply, em, eb]
  unfold lg
  by_cases hk : ok j r s
  · rw [if_pos hk, (v87_apply n j hn r s).2 hk]
    exact congrArg₂ (fun y z : EReal => y + z) (v28_apply x0 x1 x3 x4 b j n hn r g q h hh s) (v89_apply x7 b g q n r s h hh)
  · rw [if_neg hk]
    exact if_neg fun hv => hk ((v87_apply n j hn r s).1 hv)

/-- The scores' axis reduces. -/
theorem reduces_scores : S8x2x8x33x128x256.Reduces [5] S8x2x8x33x128 := ⟨rfl, by decide, reducesTo_S8x2x8x33x128x256_S8x2x8x33x128_d5.2⟩

include hn hh in
/-- The largest scores. -/
theorem v93_apply : val_main_v93 (F := Ideal) x0 x1 x3 x4 x7 (ix5 b g q n r) = Finset.fold max ⊥ (lg x0 x1 x4 x7 b j r h) Finset.univ := by
  unfold val_main_v93
  have hx := v91_apply x0 x1 x3 x4 x7 b j n hn r g q h hh
  revert hx
  generalize val_main_v91 (F := Ideal) x0 x1 x3 x4 x7 = y
  intro hx
  refine (Host.reduce_eq_fold_single (α := Ideal .f32) (s := S8x2x8x33x128x256) FloatOps.maximumf y (val_main_cst_18 (F := Ideal))
    reducesTo_S8x2x8x33x128x256_S8x2x8x33x128_d5 reduces_scores h_S_ (ix5 b g q n r)).trans ?_
  have hf : (y ∘ reduces_scores.lift (ix5 b g q n r)) = lg x0 x1 x4 x7 b j r h := funext fun s => by
    refine Eq.trans (congrArg y ?_) (hx s)
    funext a
    apply Fin.ext
    fin_cases a <;> rfl
  have hb : val_main_cst_18 (F := Ideal) (Shape.Idx.first h_S_) = (⊥ : EReal) := by
    rw [val_main_cst_18_apply]
    exact neg_inf
  exact congrArg₂ (fun (z : EReal) f => Finset.fold max z f (Finset.univ : Finset (Fin 256))) hb hf

include hh in
/-- The sinks. -/
theorem v92_apply : val_main_v92 (F := Ideal) x8 (ix5 g q 0 0 0) = x8 (ix2 0 h) := by
  have := g.isLt; have := q.isLt; have := h.isLt
  refine (val_main_v92_apply x8 _).trans ((val_main_v12_apply x8 _).trans (congrArg x8 ?_))
  funext a
  apply Fin.ext
  fin_cases a
  · rfl
  · show (((((g.val * 8 + q.val) * 1 + 0) * 1 + 0) * 1 + 0)) % 16 = h.val
    omega

include hn hh in
/-- The largest scores, the sinks with them. -/
theorem v97_apply : val_main_v97 (F := Ideal) x0 x1 x3 x4 x7 x8 (ix6 b g q n r 0) = mx x0 x1 x4 x7 x8 b j r h := by
  refine (val_main_v97_apply x0 x1 x3 x4 x7 x8 _).trans (congrArg₂ (fun y z : EReal => max y z) ?_ ?_)
  · refine (val_main_v94_apply x0 x1 x3 x4 x7 _).trans (Eq.trans (congrArg _ ?_) (v93_apply x0 x1 x3 x4 x7 b j n hn r g q h hh))
    funext a
    fin_cases a <;> rfl
  · refine (val_main_v96_apply x8 _).trans ((val_main_v95_apply x8 _).trans (Eq.trans (congrArg _ ?_) (v92_apply x8 g q h hh)))
    funext a
    fin_cases a <;> rfl

include hn hh in
/-- The shares. -/
theorem v100_apply (s : Fin 256) : val_main_v100 (F := Ideal) x0 x1 x3 x4 x7 x8 (ix6 b g q n r s) =
    Ideal.exp (lg x0 x1 x4 x7 b j r h s - mx x0 x1 x4 x7 x8 b j r h) := by
  refine (val_main_v100_apply x0 x1 x3 x4 x7 x8 _).trans (congrArg Ideal.exp ?_)
  refine (val_main_v99_apply x0 x1 x3 x4 x7 x8 _).trans (congrArg₂ (fun y z : EReal => y - z) (v91_apply x0 x1 x3 x4 x7 b j n hn r g q h hh s) ?_)
  refine (val_main_v98_apply x0 x1 x3 x4 x7 x8 _).trans (Eq.trans (congrArg _ ?_) (v97_apply x0 x1 x3 x4 x7 x8 b j n hn r g q h hh))
  funext a
  fin_cases a <;> rfl

include hn hh in
/-- The sums of the shares, the sinks' with them. -/
theorem v107_apply : val_main_v107 (F := Ideal) x0 x1 x3 x4 x7 x8 (ix6 b g q n r 0) =
    (∑ s, Ideal.exp (lg x0 x1 x4 x7 b j r h s - mx x0 x1 x4 x7 x8 b j r h)) + Ideal.exp (x8 (ix2 0 h) - mx x0 x1 x4 x7 x8 b j r h) := by
  refine (val_main_v107_apply x0 x1 x3 x4 x7 x8 _).trans (congrArg₂ (fun y z : EReal => y + z) ?_ ?_)
  · refine (val_main_v102_apply x0 x1 x3 x4 x7 x8 _).trans ((val_main_v101_apply x0 x1 x3 x4 x7 x8 _).trans ?_)
    have hz : val_main_cst_19 (F := Ideal) (Shape.Idx.first h_S_) = (0 : EReal) := by
      rw [val_main_cst_19_apply]
      show Ideal.ofBits FTy.f32 0x00000000#32 = 0
      simp [Ideal.ofBits, Ideal.ieee]
    rw [hz, zero_add]
    refine Finset.sum_congr rfl fun s _ => Eq.trans (congrArg _ ?_) (v100_apply x0 x1 x3 x4 x7 x8 b j n hn r g q h hh s)
    funext a
    fin_cases a <;> rfl
  · refine (val_main_v106_apply x0 x1 x3 x4 x7 x8 _).trans (congrArg Ideal.exp ?_)
    refine (val_main_v105_apply x0 x1 x3 x4 x7 x8 _).trans (congrArg₂ (fun y z : EReal => y - z) ?_ (v97_apply x0 x1 x3 x4 x7 x8 b j n hn r g q h hh))
    refine (val_main_v104_apply x8 _).trans ((val_main_v103_apply x8 _).trans (Eq.trans (congrArg _ ?_) (v92_apply x8 g q h hh)))
    funext a
    fin_cases a <;> rfl

include hn hh in
/-- The weights. -/
theorem v109_apply (s : Fin 256) : val_main_v109 (F := Ideal) x0 x1 x3 x4 x7 x8 (ix6 b g q n r s) =
    Ideal.div (Ideal.exp (lg x0 x1 x4 x7 b j r h s - mx x0 x1 x4 x7 x8 b j r h))
      ((∑ s, Ideal.exp (lg x0 x1 x4 x7 b j r h s - mx x0 x1 x4 x7 x8 b j r h)) + Ideal.exp (x8 (ix2 0 h) - mx x0 x1 x4 x7 x8 b j r h)) := by
  refine (val_main_v109_apply x0 x1 x3 x4 x7 x8 _).trans (congrArg₂ Ideal.div (v100_apply x0 x1 x3 x4 x7 x8 b j n hn r g q h hh s) ?_)
  refine (val_main_v108_apply x0 x1 x3 x4 x7 x8 _).trans (Eq.trans (congrArg _ ?_) (v107_apply x0 x1 x3 x4 x7 x8 b j n hn r g q h hh))
  funext a
  fin_cases a <;> rfl

include hn hh in
/-- The weighted values. -/
theorem v111_apply (d : Fin 64) : val_main_v111 (F := Ideal) x0 x1 x2 x3 x4 x5 x7 x8 (ix6 b n r g q d) =
    softOut (lg x0 x1 x4 x7 b j r h) (x8 (ix2 0 h)) (fun s => win (fun u => x2 (ix3 b u (kcol h d))) (fun u => x5 (ix2 u (kcol h d))) j s) := by
  refine (val_main_v111_apply x0 x1 x2 x3 x4 x5 x7 x8 _).trans ((val_main_v110_apply x0 x1 x2 x3 x4 x5 x7 x8 _).trans ?_)
  unfold softOut
  refine Finset.sum_congr rfl fun s _ => (mul_comm _ _).trans (congrArg₂ (fun y z : EReal => y * z) ?_ ?_)
  · refine Eq.trans (congrArg _ ?_) (v109_apply x0 x1 x3 x4 x7 x8 b j n hn r g q h hh s)
    funext a
    fin_cases a <;> rfl
  · refine Eq.trans (congrArg _ ?_) (v24_apply x2 x5 b j n hn s g h (by omega) d)
    funext a
    fin_cases a <;> rfl

/-- The attention's rows of the sequence. -/
theorem v120_apply (d : Fin 64) : val_main_v120 (F := Ideal) x0 x1 x2 x3 x4 x5 x7 x8 (ix3 b (prow j r) (hcol h d)) =
    softOut (lg x0 x1 x4 x7 b j r h) (x8 (ix2 0 h)) (fun s => win (fun u => x2 (ix3 b u (kcol h d))) (fun u => x5 (ix2 u (kcol h d))) j s) := by
  have := b.isLt; have := j.isLt; have := r.isLt; have := h.isLt; have := d.isLt
  refine (val_main_v120_apply x0 x1 x2 x3 x4 x5 x7 x8 _).trans ((val_main_v113_apply x0 x1 x2 x3 x4 x5 x7 x8 _).trans ?_)
  have hx := v111_apply x0 x1 x2 x3 x4 x5 x7 x8 b j ⟨j.val + 1, by omega⟩ rfl r ⟨h.val / 8, by omega⟩ ⟨h.val % 8, by omega⟩ h (by show h.val = 8 * (h.val / 8) + h.val % 8; omega) d
  unfold val_main_v112
  refine (shapeCast_apply _ _ _ (ix6 b ⟨j.val + 1, by omega⟩ r ⟨h.val / 8, by omega⟩ ⟨h.val % 8, by omega⟩ d) ?_).trans hx
  rw [Shape.rowMajor_val_three, Shape.rowMajor_val_six]
  show ((((b.val * 33 + (j.val + 1)) * 128 + r.val) * 2 + h.val / 8) * 8 + h.val % 8) * 64 + d.val =
    (b.val * 4224 + (112 + (16 + (128 * j.val + r.val)))) * 1024 + (64 * h.val + d.val)
  omega

/-- One element of the reference's result. -/
theorem v123_apply (d : Fin 64) : val_main_v123 (F := Ideal) x0 x1 x2 x3 x4 x5 x6 x7 x8 x9 (ix3 b (prow j r) (hcol h d)) =
    attR (fun b u i => x0 (ix3 b u i)) (fun b u i => x1 (ix3 b u i)) (fun b u i => x2 (ix3 b u i)) (fun u i => x4 (ix2 u i)) (fun u i => x5 (ix2 u i))
      (fun b u i => x6 (ix3 b u i)) (fun u i => x7 (ix2 u i)) (fun i => x8 (ix2 0 i)) (fun b u i => x9 (ix3 b u i)) b j r h d := by
  have e1 : val_main_v118 (F := Ideal) (ix3 b (prow j r) (hcol h d)) = (1 : EReal) := by
    rw [val_main_v118_apply, val_main_cst_21_apply]
    exact one_bits
  have e2 : val_main_v116 (F := Ideal) (ix3 b (prow j r) (hcol h d)) = (1 : EReal) := by
    rw [val_main_v116_apply, val_main_cst_20_apply]
    exact one_bits
  rw [val_main_v123_apply, val_main_v122_apply, val_main_v121_apply, val_main_v119_apply, e1, val_main_v117_apply, e2, val_main_v115_apply, val_main_v114_apply,
    v120_apply x0 x1 x2 x3 x4 x5 x7 x8 b j r h d]
  rfl

end

/-- The reference's result, by its elements. -/
theorem v123_eq (i : S8x4096x1024.Idx) : val_main_v123 (F := Ideal) x0 x1 x2 x3 x4 x5 x6 x7 x8 x9 i =
    attR (fun b u i => x0 (ix3 b u i)) (fun b u i => x1 (ix3 b u i)) (fun b u i => x2 (ix3 b u i)) (fun u i => x4 (ix2 u i)) (fun u i => x5 (ix2 u i))
      (fun b u i => x6 (ix3 b u i)) (fun u i => x7 (ix2 u i)) (fun i => x8 (ix2 0 i)) (fun b u i => x9 (ix3 b u i))
      (i 0) ⟨(i 1).val / 128, by have h1 : (i 1).val < 4096 := (i 1).isLt; omega⟩ ⟨(i 1).val % 128, by omega⟩
      ⟨(i 2).val / 64, by have h2 : (i 2).val < 1024 := (i 2).isLt; omega⟩ ⟨(i 2).val % 64, by omega⟩ := by
  refine Eq.trans (congrArg _ ?_) (v123_apply x0 x1 x2 x3 x4 x5 x6 x7 x8 x9 (i 0) ⟨(i 1).val / 128, by have h1 : (i 1).val < 4096 := (i 1).isLt; omega⟩ ⟨(i 1).val % 128, by omega⟩
    ⟨(i 2).val / 64, by have h2 : (i 2).val < 1024 := (i 2).isLt; omega⟩ ⟨(i 2).val % 64, by omega⟩)
  funext a
  apply Fin.ext
  fin_cases a
  · rfl
  · show (i 1).val = 128 * ((i 1).val / 128) + (i 1).val % 128
    omega
  · show (i 2).val = 64 * ((i 2).val / 64) + (i 2).val % 64
    omega

end Cert.Att.Ref

end
-- ==== Proof.Att10.lean ====
module

public import proofs.«01_k».proof.Defs
public import proofs.«01_k».proof.Proof.Att9
public import proofs.«01_k».proof.Proof.Ref3
public import Idealize.ShloMosaic.Lib.Quiescent

@[expose] public section

set_option maxRecDepth 16384

noncomputable section

namespace Cert.Att

open Idealize.ShloMosaic Idealize.ShloMosaic.TcCoe Idealize.SL.Sem

/-- The precondition's broadcasts are of the shapes they name. -/
theorem pre_facts : Cert.Pre_finite_scores.Facts := ⟨by decide, by decide, by decide, by decide, by decide⟩

/-- An element whose absolute value is below infinity is a real number. -/
theorem real_of_abs (x : EReal) (h : Ideal.cmp .olt (max x (-x)) (Ideal.ofBits FTy.f32 0x7F800000#32) = 1#1) : ∃ a : ℝ, x = a := by
  have ht : Ideal.ofBits FTy.f32 0x7F800000#32 = ⊤ := by simp [Ideal.ofBits, Ideal.ieee]
  rw [ht] at h
  induction x using EReal.rec with
  | bot => simp [Ideal.cmp] at h
  | coe a => exact ⟨a, rfl⟩
  | top => simp [Ideal.cmp] at h

/-- The reference runs, is quiescent at its end and keeps its arguments. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same of arguments whose scores are finite. -/
theorem frame_ref_finite : Cert.quiescent_ReferenceIdeal_pre_finite_scores (hReferenceIdeal := Cert.ReferenceIdeal.Gen.facts) (hPre_finite_scores := pre_facts) :=
  fun m ρ _ => frame_ref m ρ trivial

/-- On finite scores the kernel and the reference end with the same merged heads. -/
theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8, h9⟩ := hagree c
  obtain ⟨p0, p1, p4, p7, p8⟩ := hpre c
  refine (Cert.ReferenceIdeal.Read.val_main_v123_eq (F := Ideal) m' c).trans ?_
  refine Eq.trans ?_ (final9 m c).symm
  show Cert.ReferenceIdeal.Read.val_main_v123 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
  rw [h0, h1, h2, h3, h4, h5, h6, h7, h8, h9]
  refine funext fun i => (Ref.v123_eq _ _ _ _ _ _ _ _ _ _ i).trans ?_
  unfold kval
  refine (att_eq _ _ _ _ _ _ _ _ _ _ _ _ _ _ ?_ ?_ ?_ ?_ ?_).symm
  · exact fun b u i => real_of_abs _ (congrFun p0 (ix3 b u i))
  · exact fun b u i => real_of_abs _ (congrFun p1 (ix3 b u i))
  · exact fun u i => real_of_abs _ (congrFun p4 (ix2 u i))
  · exact fun u i => real_of_abs _ (congrFun p7 (ix2 u i))
  · exact fun i => real_of_abs _ (congrFun p8 (ix2 0 i))

end Cert.Att

end
-- ==== Proof.Ffn1.lean ====
module

public import proofs.«01_k».proof.Proof.Gen.Kernel2Ideal.Frame
public import Idealize.ShloMosaic.Lib.Pointwise

@[expose] public section

set_option maxRecDepth 16384

noncomputable section

namespace Cert.Ffn

open Cert.Kernel2Ideal Cert.Kernel2Ideal.Gen Idealize.ShloMosaic

/-- The layer normalisation of a block of 256 rows, as the kernel computes it. -/
def vln (x : FVec Ideal S256x1024 .f32) (g b : FVec Ideal S1x1024 .f32) : FVec Ideal S256x1024 .f32 :=
  let c : FVec Ideal S256x1024 .f32 := subf x (broadcastTo S256x1024
    (divf (shapeCast S256x1 (multiReduction .add [1] S256 x 0x00000000#32 reduces_S256x1024_S256 (.inl rfl) rfl) shapeCasts_S256_S256x1)
      (broadcast S256x1 (Scalar.ofBits .f32 0x44800000#32))) broadcasts_S256x1_S256x1024)
  addf (mulf (mulf c (broadcastTo S256x1024
    (rsqrt (addf (divf (shapeCast S256x1 (multiReduction .add [1] S256 (mulf c c) 0x00000000#32 reduces_S256x1024_S256 (.inl rfl) rfl) shapeCasts_S256_S256x1)
      (broadcast S256x1 (Scalar.ofBits .f32 0x44800000#32))) (broadcast S256x1 (Scalar.ofBits .f32 0x3727C5AC#32)))) broadcasts_S256x1_S256x1024))
    (broadcastTo S256x1024 g broadcasts_S1x1024_S256x1024)) (broadcastTo S256x1024 b broadcasts_S1x1024_S256x1024)

/-- A block of 256 rows times a square matrix. -/
def vmm (x : FVec Ideal S256x1024 .bf16) (w : FVec Ideal S1024x1024 .bf16) : FVec Ideal S256x1024 .f32 :=
  matmul dot_S256x1024_S1024x1024_S256x1024_1_0_0_1_n_n none x (shapeCast S1024x1024 w shapeCasts_S1024x1024_S1024x1024)
    (constant S256x1024 .f32 0x00000000#32)

/-- One quarter of the feed-forward network on a block of rows. -/
def vff (h : FVec Ideal S256x1024 .bf16) (w1 w2 : FVec Ideal S1024x1024 .bf16) : FVec Ideal S256x1024 .f32 :=
  vmm (truncf .bf16 (mulf (maximumf (vmm h w1) (broadcast S256x1024 (Scalar.ofBits .f32 0x00000000#32)))
    (maximumf (vmm h w1) (broadcast S256x1024 (Scalar.ofBits .f32 0x00000000#32)))) bitsLt_bf16_f32) w2

/-- A row of the stacked parameters. -/
def vrow (p : FVec Ideal S8x1024 .f32) : Fin 6 → FVec Ideal S1x1024 .f32
  | 0 => extractStridedSlice S1x1024 ![0, 0] p slices_S8x1024_o0_0_S1x1024
  | 1 => extractStridedSlice S1x1024 ![1, 0] p slices_S8x1024_o1_0_S1x1024
  | 2 => extractStridedSlice S1x1024 ![2, 0] p slices_S8x1024_o2_0_S1x1024
  | 3 => extractStridedSlice S1x1024 ![3, 0] p slices_S8x1024_o3_0_S1x1024
  | 4 => extractStridedSlice S1x1024 ![4, 0] p slices_S8x1024_o4_0_S1x1024
  | 5 => extractStridedSlice S1x1024 ![5, 0] p slices_S8x1024_o5_0_S1x1024

/-- The residual scale times a block. -/
def vscale (x : FVec Ideal S256x1024 .f32) : FVec Ideal S256x1024 .f32 :=
  mulf (broadcast S256x1024 (Scalar.ofBits .f32 0x3F9837F0#32)) x

/-- What the kernel computes before the feed-forward network. -/
def vmid (p : FVec Ideal S8x1024 .f32) (x : FVec Ideal S256x1024 .f32) (mg : FVec Ideal S256x1024 .bf16)
    (wo : FVec Ideal S1024x1024 .bf16) : FVec Ideal S256x1024 .f32 :=
  vln (addf (vscale (vln (shapeCast S256x1024 x shapeCasts_S256x1024_S256x1024) (vrow p 0) (vrow p 1)))
    (vmm (shapeCast S256x1024 mg shapeCasts_S256x1024_S256x1024) wo)) (vrow p 2) (vrow p 3)

/-- The feed-forward network on a block of rows, its hidden width in four quarters, and the last norm. -/
def vend (p : FVec Ideal S8x1024 .f32) (h : FVec Ideal S256x1024 .f32)
    (a0 a1 a2 a3 b0 b1 b2 b3 : FVec Ideal S1024x1024 .bf16) : FVec Ideal S256x1024 .f32 :=
  vln (addf (addf (addf (addf (vscale h) (vff (truncf .bf16 h bitsLt_bf16_f32) a0 b0)) (vff (truncf .bf16 h bitsLt_bf16_f32) a1 b1))
    (vff (truncf .bf16 h bitsLt_bf16_f32) a2 b2)) (vff (truncf .bf16 h bitsLt_bf16_f32) a3 b3)) (vrow p 4) (vrow p 5)

/-- The result of one block of 256 rows, from the block of parameters, the rows and the matrices. -/
def vblock (p : Vec Ideal S8x1024 .f32) (x : Vec Ideal S256x1024 .f32) (mg : Vec Ideal S256x1024 .bf16)
    (wo : Vec Ideal S1024x1024 .bf16) (x4 : Vec Ideal S1024x4096 .bf16) (x5 : Vec Ideal S4096x1024 .bf16) : Vec Ideal S256x1024 .f32 :=
  let p' := shapeCast S8x1024 (View.ld (Val := Elt Ideal) (e' := .f32) p r0_0) shapeCasts_S8x1024_S8x1024
  let c4 (r : Rect S1024x4096) := View.ld (Val := Elt Ideal) (e' := .bf16) x4 r
  let c5 (r : Rect S4096x1024) := View.ld (Val := Elt Ideal) (e' := .bf16) x5 r
  vend p' (vmid p' x mg (View.ld (Val := Elt Ideal) (e' := .bf16) wo r0_2))
    (c4 r0_6) (c4 r0_8) (c4 r0_10) (c4 r0_12) (c5 r0_7) (c5 r0_9) (c5 r0_11) (c5 r0_13)

/-- The kernel's four stores are one computation on the four blocks of rows. -/
theorem out_eq (x0 : Vec Ideal S1024x1024 .f32) (x1 : Vec Ideal S1024x1024 .bf16) (x2 : Vec Ideal S8x1024 .f32)
    (x3 : Vec Ideal S1024x1024 .bf16) (x4 : Vec Ideal S1024x4096 .bf16) (x5 : Vec Ideal S4096x1024 .bf16) :
    out0_6 (F := Ideal) x0 x1 x2 x3 x4 x5 = View.canon (Val := Elt Ideal) (e := .f32) [
      ⟨r0_5, vblock x2 (View.ld x0 r0_5) (View.ld x1 r0_5) x3 x4 x5⟩,
      ⟨r0_4, vblock x2 (View.ld x0 r0_4) (View.ld x1 r0_4) x3 x4 x5⟩,
      ⟨r0_3, vblock x2 (View.ld x0 r0_3) (View.ld x1 r0_3) x3 x4 x5⟩,
      ⟨r0_1, vblock x2 (View.ld x0 r0_1) (View.ld x1 r0_1) x3 x4 x5⟩] := by
  unfold out0_6
  rfl

end Cert.Ffn

end
-- ==== Proof.Ffn2.lean ====
module

public import proofs.«01_k».proof.Proof.Ffn1
public import Idealize.ShloMosaic.Lib.Pipeline.ValueKit

@[expose] public section

set_option maxRecDepth 16384

noncomputable section

namespace Cert.Ffn

open Cert.Kernel2Ideal Cert.Kernel2Ideal.Gen Idealize.ShloMosaic

/-- The mean of a row of 1024 numbers. -/
def mean (x : Fin 1024 → EReal) : EReal := Ideal.div (∑ k, x k) (Ideal.ofBits .f32 0x44800000#32)

/-- The layer normalisation of one row, at one column. -/
def lnRow (x g b : Fin 1024 → EReal) (j : Fin 1024) : EReal :=
  (x j - mean x) * Ideal.rsqrt (mean (fun k => (x k - mean x) * (x k - mean x)) + Ideal.ofBits .f32 0x3727C5AC#32) * g j + b j

/-- The residual scale. -/
def alpha : EReal := Ideal.ofBits .f32 0x3F9837F0#32

/-- The squared rectifier. -/
def relu2 (x : EReal) : EReal := max x 0 * max x 0

/-- One row before the feed-forward network: the scaled norm plus the projected heads, normalised. -/
def midRow (x mg g0 b0 g1 b1 : Fin 1024 → EReal) (wo : Fin 1024 → Fin 1024 → EReal) : Fin 1024 → EReal :=
  lnRow (fun k => alpha * lnRow x g0 b0 k + ∑ i, mg i * wo i k) g1 b1

/-- One hidden unit of the feed-forward network. -/
def hid (h : Fin 1024 → EReal) (f1 : Fin 1024 → Fin 4096 → EReal) (l : Fin 4096) : EReal := relu2 (∑ i, h i * f1 i l)

/-- One row of the result. -/
def resRow (x mg g0 b0 g1 b1 g2 b2 : Fin 1024 → EReal) (wo : Fin 1024 → Fin 1024 → EReal)
    (f1 : Fin 1024 → Fin 4096 → EReal) (f2 : Fin 4096 → Fin 1024 → EReal) : Fin 1024 → EReal :=
  lnRow (fun k => alpha * midRow x mg g0 b0 g1 b1 wo k + ∑ l, hid (midRow x mg g0 b0 g1 b1 wo) f1 l * f2 l k) g2 b2

/-- A sum over the hidden width is the sum over its four quarters. -/
theorem sum_quarters (a : EReal) (f : Fin 4096 → EReal) :
    a + (∑ k : Fin 1024, f ⟨k, by omega⟩) + (∑ k : Fin 1024, f ⟨1024 + k, by omega⟩) + (∑ k : Fin 1024, f ⟨2048 + k, by omega⟩)
      + (∑ k : Fin 1024, f ⟨3072 + k, by omega⟩) = a + ∑ l, f l := by
  rw [← Fin.sum_mul_add_fin 4 1024 f, Fin.sum_univ_four]
  simp only [← add_assoc]
  congr 1

/-- The kernel's layer normalisation, row by row. -/
theorem vln_apply (x : FVec Ideal S256x1024 .f32) (g b : FVec Ideal S1x1024 .f32) (j : S256x1024.Idx) :
    vln x g b j = lnRow (fun k => x (ix2 (j 0) k)) (fun k => g (ix2 0 k)) (fun k => b (ix2 0 k)) (j 1) := by
  have hj : j = ix2 (j 0) (j 1) := eq_ix2 j
  pointwise [vln]
  unfold lnRow mean
  rw [hj]
  rfl

/-- What the kernel computes on a block of rows, row by row. -/
theorem vblock_apply (p : Vec Ideal S8x1024 .f32) (x : Vec Ideal S256x1024 .f32) (mg : Vec Ideal S256x1024 .bf16)
    (wo : Vec Ideal S1024x1024 .bf16) (x4 : Vec Ideal S1024x4096 .bf16) (x5 : Vec Ideal S4096x1024 .bf16) (j : S256x1024.Idx) :
    vblock p x mg wo x4 x5 j = resRow (fun k => x (ix2 (j 0) k)) (fun k => mg (ix2 (j 0) k))
      (fun k => p (ix2 0 k)) (fun k => p (ix2 1 k)) (fun k => p (ix2 2 k)) (fun k => p (ix2 3 k)) (fun k => p (ix2 4 k)) (fun k => p (ix2 5 k))
      (fun i k => wo (ix2 i k)) (fun i l => x4 (ix2 i l)) (fun l k => x5 (ix2 l k)) (j 1) := by
  simp only [vblock, vend, vln_apply, vrow, resRow]
  pointwise [vff, vmm, vscale]
  simp only [vmid, vln_apply, vrow]
  pointwise [vscale, vln_apply, vmm]
  refine congrArg (fun f => lnRow f _ _ _) (funext fun k => ?_)
  exact sum_quarters _ (fun l => hid (midRow (fun k => x (ix2 (j 0) k)) (fun k => mg (ix2 (j 0) k)) (fun k => p (ix2 0 k))
    (fun k => p (ix2 1 k)) (fun k => p (ix2 2 k)) (fun k => p (ix2 3 k)) fun i k => wo (ix2 i k)) (fun i l => x4 (ix2 i l)) l * x5 (ix2 l k))

end Cert.Ffn

end
-- ==== Proof.Ffn3.lean ====
module

public import proofs.«01_k».proof.Proof.Ffn2
public import proofs.«01_k».proof.Proof.Gen.Kernel2Ideal.Value
public import Idealize.ShloMosaic.Lib.Pipeline.ValueKit
public import Idealize.ShloMosaic.Lib.StableHlo.ReadAt

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Row `r` of the result, from the arguments' arrays. -/
def outRow (r : Fin 32768) : Fin 1024 → EReal :=
  resRow (fun k => m ((c : Thread nD τ).loc main_arg0) (ix3 ⟨r / 4096, by omega⟩ ⟨r % 4096, by omega⟩ k))
    (fun k => m ((c : Thread nD τ).loc main_arg1) (ix3 ⟨r / 4096, by omega⟩ ⟨r % 4096, by omega⟩ k))
    (fun k => m ((c : Thread nD τ).loc main_arg2) (ix1 k)) (fun k => m ((c : Thread nD τ).loc main_arg3) (ix1 k))
    (fun k => m ((c : Thread nD τ).loc main_arg5) (ix2 0 k)) (fun k => m ((c : Thread nD τ).loc main_arg6) (ix2 0 k))
    (fun k => m ((c : Thread nD τ).loc main_arg9) (ix2 0 k)) (fun k => m ((c : Thread nD τ).loc main_arg10) (ix2 0 k))
    (fun i k => m ((c : Thread nD τ).loc main_arg4) (ix3 0 i k)) (fun i k => m ((c : Thread nD τ).loc main_arg7) (ix3 0 i k))
    (fun i k => m ((c : Thread nD τ).loc main_arg8) (ix3 0 i k))

/-- The window's blocks: the rows move with the grid, the parameters stay. -/
theorem idx (t : Fin cfg0.N) : win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]) t

/-- The rows the launch finds are those of the first argument. -/
theorem V_x (i : S32768x1024.Idx) : V m c main_v15 i =
    m ((c : Thread nD τ).loc main_arg0) (ix3 ⟨(i 0).val / 4096, by idx_bounds i; omega⟩ ⟨(i 0).val % 4096, by omega⟩ (i 1)) := by
  unfold V
  after_reads_at

/-- The heads' rows the launch finds are those of the second argument. -/
theorem V_mg (i : S32768x1024.Idx) : V m c main_v17 i =
    m ((c : Thread nD τ).loc main_arg1) (ix3 ⟨(i 0).val / 4096, by idx_bounds i; omega⟩ ⟨(i 0).val % 4096, by omega⟩ (i 1)) := by
  unfold V
  after_reads_at

/-- The output projection the launch finds. -/
theorem V_wo (i : S1024x1024.Idx) : V m c main_v19 i = m ((c : Thread nD τ).loc main_arg4) (ix3 0 (i 0) (i 1)) := by
  unfold V
  after_reads_at

/-- The first matrix of the feed-forward network. -/
theorem V_f1 (i : S1024x4096.Idx) : V m c main_v21 i = m ((c : Thread nD τ).loc main_arg7) (ix3 0 (i 0) (i 1)) := by
  unfold V
  after_reads_at

/-- The second matrix of the feed-forward network. -/
theorem V_f2 (i : S4096x1024.Idx) : V m c main_v23 i = m ((c : Thread nD τ).loc main_arg8) (ix3 0 (i 0) (i 1)) := by
  unfold V
  after_reads_at

/-- The stacked parameters, row by row. -/
theorem V_par (k : Fin 1024) : V m c main_v14 (ix2 0 k) = m ((c : Thread nD τ).loc main_arg2) (ix1 k)
    ∧ V m c main_v14 (ix2 1 k) = m ((c : Thread nD τ).loc main_arg3) (ix1 k)
    ∧ V m c main_v14 (ix2 2 k) = m ((c : Thread nD τ).loc main_arg5) (ix2 0 k)
    ∧ V m c main_v14 (ix2 3 k) = m ((c : Thread nD τ).loc main_arg6) (ix2 0 k)
    ∧ V m c main_v14 (ix2 4 k) = m ((c : Thread nD τ).loc main_arg9) (ix2 0 k)
    ∧ V m c main_v14 (ix2 5 k) = m ((c : Thread nD τ).loc main_arg10) (ix2 0 k) := by
  unfold V
  refine ⟨?_, ?_, ?_, ?_, ?_, ?_⟩
  all_goals
    after_reads_at
    simp
    after_reads_at

/-- The block of the first argument's rows at a step. -/
theorem blk_x (t : Fin cfg0.N) (y : S1024x1024.Idx) (r : Fin 32768) (hr : r.val = t.val * 1024 + (y 0).val) :
    iblk m c 0 t y = m ((c : Thread nD τ).loc main_arg0) (ix3 ⟨r / 4096, by omega⟩ ⟨r % 4096, by omega⟩ (y 1)) := by
  refine (V_x m c _).trans ?_
  blk_ext [idx t]

/-- The block of the heads' rows at a step. -/
theorem blk_mg (t : Fin cfg0.N) (y : S1024x1024.Idx) (r : Fin 32768) (hr : r.val = t.val * 1024 + (y 0).val) :
    iblk m c 1 t y = m ((c : Thread nD τ).loc main_arg1) (ix3 ⟨r / 4096, by omega⟩ ⟨r % 4096, by omega⟩ (y 1)) := by
  refine (V_mg m c _).trans ?_
  blk_ext [idx t]

/-- The parameters' block is the stacked array. -/
theorem blk_par (t : Fin cfg0.N) (y : S8x1024.Idx) : iblk m c 2 t y = V m c main_v14 y := by
  refine congrArg (V m c main_v14) ?_
  blk_ext [idx t]

/-- The output projection's block is the whole matrix. -/
theorem blk_wo (t : Fin cfg0.N) (y : S1024x1024.Idx) :
    iblk m c 3 t y = m ((c : Thread nD τ).loc main_arg4) (ix3 0 (y 0) (y 1)) := by
  refine (V_wo m c _).trans ?_
  blk_ext [idx t]

/-- The block of the first matrix is the whole matrix. -/
theorem blk_f1 (t : Fin cfg0.N) (y : S1024x4096.Idx) :
    iblk m c 4 t y = m ((c : Thread nD τ).loc main_arg7) (ix3 0 (y 0) (y 1)) := by
  refine (V_f1 m c _).trans ?_
  blk_ext [idx t]

/-- The block of the second matrix is the whole matrix. -/
theorem blk_f2 (t : Fin cfg0.N) (y : S4096x1024.Idx) :
    iblk m c 5 t y = m ((c : Thread nD τ).loc main_arg8) (ix3 0 (y 0) (y 1)) := by
  refine (V_f2 m c _).trans ?_
  blk_ext [idx t]

/-- A block of rows the kernel computes holds rows of the result. -/
theorem block_row (t : Fin cfg0.N) (X : Vec Ideal S256x1024 .f32) (M : Vec Ideal S256x1024 .bf16) (x : S256x1024.Idx) (r : Fin 32768)
    (q : Fin 1024) (hX : ∀ k, ∃ y, X (ix2 (x 0) k) = iblk m c 0 t y ∧ r.val = t.val * 1024 + (y 0).val ∧ y 1 = k)
    (hM : ∀ k, ∃ y, M (ix2 (x 0) k) = iblk m c 1 t y ∧ r.val = t.val * 1024 + (y 0).val ∧ y 1 = k) (hq : q = x 1) :
    vblock (iblk m c 2 t) X M (iblk m c 3 t) (iblk m c 4 t) (iblk m c 5 t) x = outRow m c r q := by
  have gX k : X (ix2 (x 0) k) = m ((c : Thread nD τ).loc main_arg0) (ix3 ⟨r / 4096, by omega⟩ ⟨r % 4096, by omega⟩ k) := by
    obtain ⟨y, e, h, rfl⟩ := hX k
    exact e.trans (blk_x m c t y r h)
  have gM k : M (ix2 (x 0) k) = m ((c : Thread nD τ).loc main_arg1) (ix3 ⟨r / 4096, by omega⟩ ⟨r % 4096, by omega⟩ k) := by
    obtain ⟨y, e, h, rfl⟩ := hM k
    exact e.trans (blk_mg m c t y r h)
  rw [vblock_apply, outRow, hq, funext gX, funext gM]
  have p (n : Fin 8) (k : Fin 1024) : iblk m c 2 t (ix2 n k) = V m c main_v14 (ix2 n k) := blk_par m c t _
  have w (i k) : iblk m c 3 t (ix2 i k) = m ((c : Thread nD τ).loc main_arg4) (ix3 0 i k) := blk_wo m c t (ix2 i k)
  have a (i k) : iblk m c 4 t (ix2 i k) = m ((c : Thread nD τ).loc main_arg7) (ix3 0 i k) := blk_f1 m c t (ix2 i k)
  have b (i k) : iblk m c 5 t (ix2 i k) = m ((c : Thread nD τ).loc main_arg8) (ix3 0 i k) := blk_f2 m c t (ix2 i k)
  have e0 := funext fun k => (p 0 k).trans (V_par m c k).1
  have e1 := funext fun k => (p 1 k).trans (V_par m c k).2.1
  have e2 := funext fun k => (p 2 k).trans (V_par m c k).2.2.1
  have e3 := funext fun k => (p 3 k).trans (V_par m c k).2.2.2.1
  have e4 := funext fun k => (p 4 k).trans (V_par m c k).2.2.2.2.1
  have e5 := funext fun k => (p 5 k).trans (V_par m c k).2.2.2.2.2
  rw [e0, e1, e2, e3, e4, e5, funext fun i => funext (w i), funext fun i => funext (a i), funext fun i => funext (b i)]

/-- The array the kernel leaves. -/
theorem final (c : Dev nD) : (dats m 0 c).arrAt 6 cfg0.N = fun i : S32768x1024.Idx => outRow m c (i 0) (i 1) := by
  refine (dats m 0 c).arrAt_eq_of_covers 6 _ (by decide +kernel) fun t hf y => ?_
  blk_simp
  rw [after0_6, out_eq]
  have hr : ((win0_6.blk t).view.emb y 0 : Nat) = t.val * 1024 + y 0 := by blk_simp [idx t]
  have hq : ((win0_6.blk t).view.emb y 1 : Nat) = y 1 := by blk_simp [idx t]
  canon_tiles x h
  all_goals
    refine block_row m c t _ _ x _ _ (fun k => ⟨_, rfl, ?_, Fin.ext ?_⟩) (fun k => ⟨_, rfl, ?_, Fin.ext ?_⟩) (Fin.ext (by omega))
  all_goals
    first
    | (rw [hr, h0, Rect.idx_unit_val]; rfl)
    | (rw [hr, h0, Rect.idx_unit_val]; exact congrArg _ (Nat.zero_add _).symm)
    | (rw [Rect.idx_unit_val]; exact Nat.zero_add _)

end Cert.Ffn

end
-- ==== Proof.Ffn4.lean ====
module

public import proofs.«01_k».proof.Proof.Ffn2
public import proofs.«01_k».proof.Proof.Gen.Reference2Ideal.Read
public import Idealize.ShloMosaic.Lib.Pipeline.ValueKit

@[expose] public section

set_option maxRecDepth 16384

noncomputable section

namespace Cert.Ffn

open Cert.Reference2Ideal Cert.Reference2Ideal.Gen Cert.Reference2Ideal.Read Idealize.ShloMosaic

/-- The reference's layer normalisation, row by row. -/
theorem rln_apply (x : FVec Ideal S8x4096x1024 .f32) (g b : FVec Ideal S1024 .f32) (i : S8x4096x1024.Idx) :
    val_main_v23 (F := Ideal) x g b i = lnRow (fun k => x (ix3 (i 0) (i 1) k)) (fun k => g (ix1 k)) (fun k => b (ix1 k)) (i 2) := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3]
  unfold lnRow mean
  rw [eq_ix3 i]
  rfl

/-- The reference's first residual, row by row. -/
theorem rmid_apply (x mg : FVec Ideal S8x4096x1024 .f32) (g b : FVec Ideal S1024 .f32) (wo : FVec Ideal S1x1024x1024 .f32) (i : S8x4096x1024.Idx) :
    val_main_v28 (F := Ideal) x mg g b wo i = alpha * lnRow (fun k => x (ix3 (i 0) (i 1) k)) (fun k => g (ix1 k)) (fun k => b (ix1 k)) (i 2)
      + ∑ k, mg (ix3 (i 0) (i 1) k) * wo (ix3 0 k (i 2)) := by
  pointwise [val_main_v28, val_main_v27, val_main_v26, val_main_v25, val_main_v24, val_main_cst_4, rln_apply]
  rfl

/-- The reference's feed-forward network with its residual, on rows it is handed. -/
def rff (h : FVec Ideal S8x4096x1024 .f32) (w1 : FVec Ideal S1x1024x4096 .f32) (w2 : FVec Ideal S1x4096x1024 .f32) : FVec Ideal S8x4096x1024 .f32 :=
  addf (mulf (val_main_v61 (F := Ideal)) h)
    (Host.dotGeneral dot_S8x4096x4096_S4096x1024_S8x4096x1024_2_0_01_1_n_n none
      (mulf (maximumf (Host.dotGeneral dot_S8x4096x1024_S1024x4096_S8x4096x4096_2_0_01_1_n_n none h (shapeCast _ w1 shapeCasts_S1x1024x4096_S1024x4096)) (broadcastInDim S8x4096x4096 ![] bcast_S_S8x4096x4096 (constant S_ .f32 0x00000000#32)))
        (maximumf (Host.dotGeneral dot_S8x4096x1024_S1024x4096_S8x4096x4096_2_0_01_1_n_n none h (shapeCast _ w1 shapeCasts_S1x1024x4096_S1024x4096)) (broadcastInDim S8x4096x4096 ![] bcast_S_S8x4096x4096 (constant S_ .f32 0x00000000#32))))
      (shapeCast _ w2 shapeCasts_S1x4096x1024_S4096x1024))

/-- The feed-forward network with its residual, row by row. -/
theorem rff_apply (h : FVec Ideal S8x4096x1024 .f32) (w1 : FVec Ideal S1x1024x4096 .f32) (w2 : FVec Ideal S1x4096x1024 .f32) (i : S8x4096x1024.Idx) :
    rff h w1 w2 i = alpha * h i + ∑ l, hid (fun k => h (ix3 (i 0) (i 1) k)) (fun k l => w1 (ix3 0 k l)) l * w2 (ix3 0 l (i 2)) := by
  pointwise [rff, val_main_v61, val_main_cst_10]
  rfl

/-- The reference's result, row by row. -/
theorem ref_apply (x mg : FVec Ideal S8x4096x1024 .f32) (g0 b0 : FVec Ideal S1024 .f32) (wo : FVec Ideal S1x1024x1024 .f32) (g1 b1 : FVec Ideal S1x1024 .f32)
    (w1 : FVec Ideal S1x1024x4096 .f32) (w2 : FVec Ideal S1x4096x1024 .f32) (g2 b2 : FVec Ideal S1x1024 .f32) (i : S32768x1024.Idx) :
    val_main_v90 (F := Ideal) x mg g0 b0 wo g1 b1 w1 w2 g2 b2 i =
      resRow (fun k => x (ix3 ⟨(i 0).val / 4096, by idx_bounds i; omega⟩ ⟨(i 0).val % 4096, by omega⟩ k))
        (fun k => mg (ix3 ⟨(i 0).val / 4096, by idx_bounds i; omega⟩ ⟨(i 0).val % 4096, by omega⟩ k))
        (fun k => g0 (ix1 k)) (fun k => b0 (ix1 k)) (fun k => g1 (ix2 0 k)) (fun k => b1 (ix2 0 k)) (fun k => g2 (ix2 0 k)) (fun k => b2 (ix2 0 k))
        (fun a k => wo (ix3 0 a k)) (fun a k => w1 (ix3 0 a k)) (fun a k => w2 (ix3 0 a k)) (i 1) := by
  have e : val_main_v89 (F := Ideal) x mg g0 b0 wo g1 b1 w1 w2 g2 b2
      = val_main_v23 (F := Ideal) (rff (val_main_v23 (F := Ideal) (val_main_v28 (F := Ideal) x mg g0 b0 wo) (val_main_v29 (F := Ideal) g1) (val_main_v30 (F := Ideal) b1)) w1 w2)
        (val_main_v64 (F := Ideal) g2) (val_main_v65 (F := Ideal) b2) := rfl
  have v1 (g : FVec Ideal S1x1024 .f32) (k : Fin 1024) : val_main_v29 (F := Ideal) g (ix1 k) = g (ix2 0 k) := by pointwise [val_main_v29]
  have v2 (g : FVec Ideal S1x1024 .f32) (k : Fin 1024) : val_main_v30 (F := Ideal) g (ix1 k) = g (ix2 0 k) := by pointwise [val_main_v30]
  have v3 (g : FVec Ideal S1x1024 .f32) (k : Fin 1024) : val_main_v64 (F := Ideal) g (ix1 k) = g (ix2 0 k) := by pointwise [val_main_v64]
  have v4 (g : FVec Ideal S1x1024 .f32) (k : Fin 1024) : val_main_v65 (F := Ideal) g (ix1 k) = g (ix2 0 k) := by pointwise [val_main_v65]
  have hi : idx_main_v90 i = ix3 ⟨(i 0).val / 4096, by idx_bounds i; omega⟩ ⟨(i 0).val % 4096, by omega⟩ (i 1) := by
    idx_bounds i
    funext a
    fin_cases a <;> refine Fin.ext ?_ <;> simp [idx_main_v90] <;> omega
  have key (a : Fin 8) (s : Fin 4096) (q : Fin 1024) : val_main_v89 (F := Ideal) x mg g0 b0 wo g1 b1 w1 w2 g2 b2 (ix3 a s q)
      = resRow (fun k => x (ix3 a s k)) (fun k => mg (ix3 a s k)) (fun k => g0 (ix1 k)) (fun k => b0 (ix1 k)) (fun k => g1 (ix2 0 k))
        (fun k => b1 (ix2 0 k)) (fun k => g2 (ix2 0 k)) (fun k => b2 (ix2 0 k))
        (fun a k => wo (ix3 0 a k)) (fun a k => w1 (ix3 0 a k)) (fun a k => w2 (ix3 0 a k)) q := by
    rw [e]
    refine (rln_apply _ _ _ _).trans ?_
    simp only [rff_apply, rln_apply, rmid_apply, v1, v2, v3, v4]
    rfl
  rw [val_main_v90_apply]
  exact (congrArg _ hi).trans (key _ _ _)

end Cert.Ffn

end
-- ==== Proof.Ffn5.lean ====
module

public import proofs.«01_k».proof.Defs
public import proofs.«01_k».proof.Proof.Ffn3
public import proofs.«01_k».proof.Proof.Ffn4
public import proofs.«01_k».proof.Proof.Gen.Kernel2.Frame
public import Idealize.ShloMosaic.Lib.Quiescent

@[expose] public section

set_option maxRecDepth 16384

noncomputable section

namespace Cert.Ffn

open Idealize.ShloMosaic Idealize.ShloMosaic.TcCoe Idealize.SL.Sem

/-- The reference runs, is quiescent at its end and keeps its arguments. -/
theorem frame_ref : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel and the reference end with the same rows. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨_, Cert.Kernel2Ideal.Value.run_blocks m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7, h8, h9, h10⟩ := hagree c
  refine (Cert.Reference2Ideal.Read.val_main_v90_eq (F := Ideal) (StableHlo.launchContents m' c)).trans ?_
  refine Eq.trans ?_ (final m c).symm
  show Cert.Reference2Ideal.Read.val_main_v90 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) = _
  rw [h0, h1, h2, h3, h4, h5, h6, h7, h8, h9, h10]
  exact funext fun i => ref_apply _ _ _ _ _ _ _ _ _ _ _ i

end Cert.Ffn

end
-- ==== Proof.Prj1.lean ====
module

public import proofs.«01_k».proof.Proof.Ffn2
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Prj

open Cert.Kernel3Ideal Cert.Kernel3Ideal.Gen Idealize.ShloMosaic

/-- The layer normalisation of 256 rows, as the kernel computes it. -/
def vln (x0 : Vec Ideal S256x1024 .f32) (g0 b0 : Vec Ideal S1x1024 .f32) : FVec Ideal S256x1024 .bf16 :=
  let x : FVec Ideal S256x1024 .f32 := shapeCast S256x1024 x0 shapeCasts_S256x1024_S256x1024
  let g : FVec Ideal S1x1024 .f32 := shapeCast S1x1024 g0 shapeCasts_S1x1024_S1x1024
  let b : FVec Ideal S1x1024 .f32 := shapeCast S1x1024 b0 shapeCasts_S1x1024_S1x1024
  let c : FVec Ideal S256x1024 .f32 := subf x (broadcastTo S256x1024
    (divf (shapeCast S256x1 (multiReduction .add [1] S256 x 0x00000000#32 reduces_S256x1024_S256 (.inl rfl) rfl) shapeCasts_S256_S256x1)
      (broadcast S256x1 (Scalar.ofBits .f32 0x44800000#32))) broadcasts_S256x1_S256x1024)
  truncf .bf16 (addf (mulf (mulf c (broadcastTo S256x1024
    (rsqrt (addf (divf (shapeCast S256x1 (multiReduction .add [1] S256 (mulf c c) 0x00000000#32 reduces_S256x1024_S256 (.inl rfl) rfl) shapeCasts_S256_S256x1)
      (broadcast S256x1 (Scalar.ofBits .f32 0x44800000#32))) (broadcast S256x1 (Scalar.ofBits .f32 0x3727C5AC#32)))) broadcasts_S256x1_S256x1024))
    (broadcastTo S256x1024 g broadcasts_S1x1024_S256x1024)) (broadcastTo S256x1024 b broadcasts_S1x1024_S256x1024)) bitsLt_bf16_f32

/-- Queries of 256 rows, 512 columns of them, scaled. -/
def vq (y : FVec Ideal S256x1024 .bf16) (w : Vec Ideal S1024x512 .bf16) : FVec Ideal S256x512 .bf16 :=
  truncf .bf16 (mulf (matmul dot_S256x1024_S1024x512_S256x512_1_0_0_1_n_n none y (shapeCast S1024x512 w shapeCasts_S1024x512_S1024x512 : FVec Ideal S1024x512 .bf16) (constant S256x512 .f32 0x00000000#32))
    (broadcast S256x512 (Scalar.ofBits .f32 0x3E000000#32))) bitsLt_bf16_f32

/-- Both halves' rows. -/
def vcat (y0 y1 : FVec Ideal S256x1024 .bf16) : FVec Ideal S512x1024 .bf16 :=
  concatenate S512x1024 0 [⟨S256x1024, y0⟩, ⟨S256x1024, y1⟩] concatenates_S256x1024_S256x1024_S512x1024_d0

/-- A product with 256 columns. -/
def vmm2 (y : FVec Ideal S512x1024 .bf16) (w : Vec Ideal S1024x256 .bf16) : FVec Ideal S512x256 .f32 :=
  matmul dot_S512x1024_S1024x256_S512x256_1_0_0_1_n_n none y (shapeCast S1024x256 w shapeCasts_S1024x256_S1024x256 : FVec Ideal S1024x256 .bf16) (constant S512x256 .f32 0x00000000#32)

/-- A product with 512 columns. -/
def vmm5 (y : FVec Ideal S512x1024 .bf16) (w : Vec Ideal S1024x512 .bf16) : FVec Ideal S512x512 .f32 :=
  matmul dot_S512x1024_S1024x512_S512x512_1_0_0_1_n_n none y (shapeCast S1024x512 w shapeCasts_S1024x512_S1024x512 : FVec Ideal S1024x512 .bf16) (constant S512x512 .f32 0x00000000#32)

/-- The lanes of the first head of a pair. -/
def vlo : IVec S1x128 1 := cmpi .slt (iota .tc S1x128 32 [1] iota_S1x128_d1_w32) (broadcast S1x128 64#32)

/-- Each of two heads twice. -/
def vdup (z : FVec Ideal S512x128 .f32) : FVec Ideal S512x256 .bf16 :=
  truncf .bf16 (concatenate S512x256 1
    [⟨S512x128, select (broadcastTo S512x128 (shapeCast S1x128 vlo shapeCasts_S1x128_S1x128) broadcasts_S1x128_S512x128) z (dynamicRotate 1 64#32 none z rotates_S512x128_d1)⟩,
     ⟨S512x128, select (broadcastTo S512x128 (shapeCast S1x128 vlo shapeCasts_S1x128_S1x128) broadcasts_S1x128_S512x128) (dynamicRotate 1 64#32 none z rotates_S512x128_d1) z⟩]
    concatenates_S512x128_S512x128_S512x256_d1) bitsLt_bf16_f32

/-- A block of 256 rows of the input. -/
def xin (x0 : Vec Ideal S512x1024 .f32) (o : Nat) (h : ∀ a, (![o, 0] : Fin 2 → Nat) a + S256x1024.size a ≤ S512x1024.size a) : Vec Ideal S256x1024 .f32 :=
  View.ld (Val := Elt Ideal) (e' := .f32) x0 (Rect.unit (s := S512x1024) ![o, 0] S256x1024.size h)

/-- 512 columns of the matrix. -/
def w5 (x3 : Vec Ideal S1024x6656 .bf16) (o : Nat) (h : ∀ a, (![0, o] : Fin 2 → Nat) a + S1024x512.size a ≤ S1024x6656.size a) : Vec Ideal S1024x512 .bf16 :=
  View.ld (Val := Elt Ideal) (e' := .bf16) x3 (Rect.unit (s := S1024x6656) ![0, o] S1024x512.size h)

/-- 256 columns of the matrix. -/
def w2 (x3 : Vec Ideal S1024x6656 .bf16) (o : Nat) (h : ∀ a, (![0, o] : Fin 2 → Nat) a + S1024x256.size a ≤ S1024x6656.size a) : Vec Ideal S1024x256 .bf16 :=
  View.ld (Val := Elt Ideal) (e' := .bf16) x3 (Rect.unit (s := S1024x6656) ![0, o] S1024x256.size h)

/-- A row of parameters. -/
def par (x : Vec Ideal S1x1024 .f32) : Vec Ideal S1x1024 .f32 :=
  View.ld (Val := Elt Ideal) (e' := .f32) x (Rect.unit (s := S1x1024) ![0, 0] S1x1024.size inb_S1x1024_S1x1024_0_0)

/-- The first half's normalised rows. -/
def ylo (x0 : Vec Ideal S512x1024 .f32) (x1 x2 : Vec Ideal S1x1024 .f32) : FVec Ideal S256x1024 .bf16 :=
  vln (xin x0 0 inb_S512x1024_S256x1024_0_0) (par x1) (par x2)

/-- The second half's normalised rows. -/
def yhi (x0 : Vec Ideal S512x1024 .f32) (x1 x2 : Vec Ideal S1x1024 .f32) : FVec Ideal S256x1024 .bf16 :=
  vln (xin x0 256 inb_S512x1024_S256x1024_256_0) (par x1) (par x2)

/-- The keys' and values' columns. -/
def kv (x0 : Vec Ideal S512x1024 .f32) (x1 x2 : Vec Ideal S1x1024 .f32) (x3 : Vec Ideal S1024x6656 .bf16) : FVec Ideal S512x256 .f32 :=
  vmm2 (vcat (ylo x0 x1 x2) (yhi x0 x1 x2)) (w2 x3 1024 inb_S1024x6656_S1024x256_0_1024)

/-- The stores of the first result, the last first. -/
def pieces4 (x0 : Vec Ideal S512x1024 .f32) (x1 x2 : Vec Ideal S1x1024 .f32) (x3 : Vec Ideal S1024x6656 .bf16) : List (View.Piece (Elt Ideal) S512x1536 .bf16) :=
  [⟨Rect.unit (s := S512x1536) ![0, 1280] S512x256.size inb_S512x1536_S512x256_0_1280,
      vdup (extractStridedSlice S512x128 ![0, 128] (kv x0 x1 x2 x3) slices_S512x256_o0_128_S512x128)⟩,
   ⟨Rect.unit (s := S512x1536) ![0, 1024] S512x256.size inb_S512x1536_S512x256_0_1024,
      vdup (extractStridedSlice S512x128 ![0, 0] (kv x0 x1 x2 x3) slices_S512x256_o0_0_S512x128)⟩,
   ⟨Rect.unit (s := S512x1536) ![256, 512] S256x512.size inb_S512x1536_S256x512_256_512, vq (yhi x0 x1 x2) (w5 x3 512 inb_S1024x6656_S1024x512_0_512)⟩,
   ⟨Rect.unit (s := S512x1536) ![0, 512] S256x512.size inb_S512x1536_S256x512_0_512, vq (ylo x0 x1 x2) (w5 x3 512 inb_S1024x6656_S1024x512_0_512)⟩,
   ⟨Rect.unit (s := S512x1536) ![256, 0] S256x512.size inb_S512x1536_S256x512_256_0, vq (yhi x0 x1 x2) (w5 x3 0 inb_S1024x6656_S1024x512_0_0)⟩,
   ⟨Rect.unit (s := S512x1536) ![0, 0] S256x512.size inb_S512x1536_S256x512_0_0, vq (ylo x0 x1 x2) (w5 x3 0 inb_S1024x6656_S1024x512_0_0)⟩]

/-- The stores of the second result, the last first. -/
def pieces5 (x0 : Vec Ideal S512x1024 .f32) (x1 x2 : Vec Ideal S1x1024 .f32) (x3 : Vec Ideal S1024x6656 .bf16) : List (View.Piece (Elt Ideal) S512x5376 .f32) :=
  let y := vcat (ylo x0 x1 x2) (yhi x0 x1 x2)
  [⟨Rect.unit (s := S512x5376) ![0, 4864] S512x512.size inb_S512x5376_S512x512_0_4864, vmm5 y (w5 x3 6144 inb_S1024x6656_S1024x512_0_6144)⟩,
   ⟨Rect.unit (s := S512x5376) ![0, 4352] S512x512.size inb_S512x5376_S512x512_0_4352, vmm5 y (w5 x3 5632 inb_S1024x6656_S1024x512_0_5632)⟩,
   ⟨Rect.unit (s := S512x5376) ![0, 4096] S512x256.size inb_S512x5376_S512x256_0_4096, vmm2 y (w2 x3 4352 inb_S1024x6656_S1024x256_0_4352)⟩,
   ⟨Rect.unit (s := S512x5376) ![0, 3584] S512x512.size inb_S512x5376_S512x512_0_3584, vmm5 y (w5 x3 3840 inb_S1024x6656_S1024x512_0_3840)⟩,
   ⟨Rect.unit (s := S512x5376) ![0, 3072] S512x512.size inb_S512x5376_S512x512_0_3072, vmm5 y (w5 x3 3328 inb_S1024x6656_S1024x512_0_3328)⟩,
   ⟨Rect.unit (s := S512x5376) ![0, 2560] S512x512.size inb_S512x5376_S512x512_0_2560, vmm5 y (w5 x3 2816 inb_S1024x6656_S1024x512_0_2816)⟩,
   ⟨Rect.unit (s := S512x5376) ![0, 2048] S512x512.size inb_S512x5376_S512x512_0_2048, vmm5 y (w5 x3 2304 inb_S1024x6656_S1024x512_0_2304)⟩,
   ⟨Rect.unit (s := S512x5376) ![0, 1536] S512x512.size inb_S512x5376_S512x512_0_1536, vmm5 y (w5 x3 1792 inb_S1024x6656_S1024x512_0_1792)⟩,
   ⟨Rect.unit (s := S512x5376) ![0, 1024] S512x512.size inb_S512x5376_S512x512_0_1024, vmm5 y (w5 x3 1280 inb_S1024x6656_S1024x512_0_1280)⟩,
   ⟨Rect.unit (s := S512x5376) ![0, 512] S512x512.size inb_S512x5376_S512x512_0_512, vmm5 y (w5 x3 5120 inb_S1024x6656_S1024x512_0_5120)⟩,
   ⟨Rect.unit (s := S512x5376) ![0, 0] S512x512.size inb_S512x5376_S512x512_0_0, vmm5 y (w5 x3 4608 inb_S1024x6656_S1024x512_0_4608)⟩]

set_option maxHeartbeats 2000000 in
/-- What a step leaves of the first result. -/
theorem out4_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x6656 .bf16) (harg4 : arg4.IsWhole) (arg5 : Memref sig .tc .vmem S512x1536 .bf16) (harg5 : arg5.IsWhole) (arg6 : Memref sig .tc .vmem S512x5376 .f32) (harg6 : arg6.IsWhole)
    (x0 : Vec Ideal S512x1024 .f32) (x1 x2 : Vec Ideal S1x1024 .f32) (x3 : Vec Ideal S1024x6656 .bf16) :
    out0_A_4 (F := Ideal) c i arg1 harg1 arg2 harg2 arg3 harg3 arg4 harg4 arg5 harg5 arg6 harg6 x0 x1 x2 x3 =
      View.canon (Val := Elt Ideal) (e := .bf16) (pieces4 x0 x1 x2 x3) := by
  refine Eq.trans (b := View.canon (Val := Elt Ideal) (e := .bf16) (pieces4 (View.read (Elt Ideal) arg1.view (harg1.unread x0)) (View.read (Elt Ideal) arg2.view (harg2.unread x1)) (View.read (Elt Ideal) arg3.view (harg3.unread x2)) (View.read (Elt Ideal) arg4.view (harg4.unread x3)))) ?_ ?_
  · unfold out0_A_4
    rw [View.read_writes_junk_eq_canon]
    refine congrArg (View.canon (Val := Elt Ideal) (e := .bf16)) ?_
    unfold kernelRun0_A pieces4
    repeat' (refine congrArg₂ List.cons ?_ ?_)
    all_goals rfl
  · simp only [Memref.IsWhole.read_unread]

set_option maxHeartbeats 2000000 in
/-- What a step leaves of the second result. -/
theorem out5_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x6656 .bf16) (harg4 : arg4.IsWhole) (arg5 : Memref sig .tc .vmem S512x1536 .bf16) (harg5 : arg5.IsWhole) (arg6 : Memref sig .tc .vmem S512x5376 .f32) (harg6 : arg6.IsWhole)
    (x0 : Vec Ideal S512x1024 .f32) (x1 x2 : Vec Ideal S1x1024 .f32) (x3 : Vec Ideal S1024x6656 .bf16) :
    out0_A_5 (F := Ideal) c i arg1 harg1 arg2 harg2 arg3 harg3 arg4 harg4 arg5 harg5 arg6 harg6 x0 x1 x2 x3 =
      View.canon (Val := Elt Ideal) (e := .f32) (pieces5 x0 x1 x2 x3) := by
  refine Eq.trans (b := View.canon (Val := Elt Ideal) (e := .f32) (pieces5 (View.read (Elt Ideal) arg1.view (harg1.unread x0)) (View.read (Elt Ideal) arg2.view (harg2.unread x1)) (View.read (Elt Ideal) arg3.view (harg3.unread x2)) (View.read (Elt Ideal) arg4.view (harg4.unread x3)))) ?_ ?_
  · unfold out0_A_5
    rw [View.read_writes_junk_eq_canon]
    refine congrArg (View.canon (Val := Elt Ideal) (e := .f32)) ?_
    unfold kernelRun0_A pieces5
    repeat' (refine congrArg₂ List.cons ?_ ?_)
    all_goals rfl
  · simp only [Memref.IsWhole.read_unread]

end Cert.Prj

end
-- ==== Proof.Prj2.lean ====
module

public import proofs.«01_k».proof.Proof.Prj1

@[expose] public section

set_option maxRecDepth 16384

noncomputable section

namespace Cert.Prj

open Cert.Kernel3Ideal Cert.Kernel3Ideal.Gen Idealize.ShloMosaic

/-- The normalised rows. -/
theorem vln_apply (x : Vec Ideal S256x1024 .f32) (g b : Vec Ideal S1x1024 .f32) (r : Fin 256) (j : Fin 1024) :
    vln x g b (ix2 r j) = Cert.Ffn.lnRow (fun k => x (ix2 r k)) (fun k => g (ix2 0 k)) (fun k => b (ix2 0 k)) j := by
  pointwise [vln]
  rfl

/-- The scaled queries. -/
theorem vq_apply (y : FVec Ideal S256x1024 .bf16) (w : Vec Ideal S1024x512 .bf16) (r : Fin 256) (j : Fin 512) :
    vq y w (ix2 r j) = ((∑ k : Fin 1024, y (ix2 r k) * w (ix2 k j)) * Ideal.ofBits .f32 0x3E000000#32 : EReal) := by
  pointwise [vq]

/-- A row of both halves. -/
theorem vcat_apply (y0 y1 : FVec Ideal S256x1024 .bf16) (r : Fin 512) (j : Fin 1024) :
    vcat y0 y1 (ix2 r j) = if h : r.val < 256 then y0 (ix2 ⟨r.val, h⟩ j) else y1 (ix2 ⟨r.val - 256, by omega⟩ j) := by
  pointwise [vcat]

/-- A product's entry. -/
theorem vmm2_apply (y : FVec Ideal S512x1024 .bf16) (w : Vec Ideal S1024x256 .bf16) (r : Fin 512) (j : Fin 256) :
    vmm2 y w (ix2 r j) = ∑ k : Fin 1024, y (ix2 r k) * w (ix2 k j) := by
  pointwise [vmm2]

/-- A product's entry. -/
theorem vmm5_apply (y : FVec Ideal S512x1024 .bf16) (w : Vec Ideal S1024x512 .bf16) (r : Fin 512) (j : Fin 512) :
    vmm5 y w (ix2 r j) = ∑ k : Fin 1024, y (ix2 r k) * w (ix2 k j) := by
  pointwise [vmm5]

/-- A lane's mask. -/
theorem lane_mask (d : Fin 128) : IntOp.cmpi CmpIPredicate.slt (BitVec.ofNat 32 d.val) 64#32 = if d.val < 64 then 1#1 else 0#1 := by
  revert d; decide +kernel

/-- A choice by a lane's mask. -/
theorem select_lane (d : Fin 128) (x y : EReal) :
    Scalar.select (IntOp.cmpi CmpIPredicate.slt (BitVec.ofNat 32 d.val) 64#32) x y = if d.val < 64 then x else y := by
  rw [lane_mask]; split <;> rfl

/-- Each head twice: column `j` is lane `j % 64` of head `j / 128`. -/
theorem vdup_apply (z : FVec Ideal S512x128 .f32) (r : Fin 512) (j : Fin 256) :
    vdup z (ix2 r j) = z (ix2 r ⟨64 * (j.val / 128) + j.val % 64, by omega⟩) := by
  pointwise [vdup, vlo]
  have a (d : Nat) (hd : d < 128) (x y : EReal) : Scalar.select (IntOp.cmpi CmpIPredicate.slt (BitVec.ofNat 32 d) 64#32) x y = if d < 64 then x else y :=
    select_lane ⟨d, hd⟩ x y
  split
  · rw [a _ (by omega)]
    split
    · exact congrArg (fun l => z (ix2 r l)) (Fin.ext (by dsimp only; omega))
    · exact congrArg (fun l => z (ix2 r l)) (Fin.ext (by dsimp only; omega))
  · rw [a _ (by omega)]
    split
    · exact congrArg (fun l => z (ix2 r l)) (Fin.ext (by dsimp only; omega))
    · exact congrArg (fun l => z (ix2 r l)) (Fin.ext (by dsimp only; omega))

/-- A block of the input's rows. -/
theorem xin_apply (x0 : Vec Ideal S512x1024 .f32) (o : Nat) (h) (ho : o + 256 ≤ 512) (r : Fin 256) (k : Fin 1024) :
    xin x0 o h (ix2 r k) = x0 (ix2 ⟨o + r.val, by omega⟩ k) := by
  pointwise [xin]

/-- 512 columns of the matrix. -/
theorem w5_apply (x3 : Vec Ideal S1024x6656 .bf16) (o : Nat) (h) (ho : o + 512 ≤ 6656) (k : Fin 1024) (j : Fin 512) :
    w5 x3 o h (ix2 k j) = x3 (ix2 k ⟨o + j.val, by omega⟩) := by
  pointwise [w5]

/-- 256 columns of the matrix. -/
theorem w2_apply (x3 : Vec Ideal S1024x6656 .bf16) (o : Nat) (h) (ho : o + 256 ≤ 6656) (k : Fin 1024) (j : Fin 256) :
    w2 x3 o h (ix2 k j) = x3 (ix2 k ⟨o + j.val, by omega⟩) := by
  pointwise [w2]

/-- A row of parameters. -/
theorem par_apply (x : Vec Ideal S1x1024 .f32) (k : Fin 1024) : par x (ix2 0 k) = x (ix2 0 k) := by
  pointwise [par]

variable (x0 : Vec Ideal S512x1024 .f32) (x1 x2 : Vec Ideal S1x1024 .f32) (x3 : Vec Ideal S1024x6656 .bf16)

/-- A row of the block, normalised. -/
def row (r : Fin 512) : Fin 1024 → EReal :=
  Cert.Ffn.lnRow (fun k => x0 (ix2 r k)) (fun k => x1 (ix2 0 k)) (fun k => x2 (ix2 0 k))

/-- A row of the block times a column of the matrix. -/
def prod (r : Fin 512) (j : Fin 6656) : EReal := ∑ k : Fin 1024, row x0 x1 x2 r k * x3 (ix2 k j)

/-- The first half's rows. -/
theorem ylo_apply (r : Fin 256) (k : Fin 1024) : ylo x0 x1 x2 (ix2 r k) = row x0 x1 x2 ⟨r.val, by omega⟩ k := by
  unfold ylo row
  rw [vln_apply]
  simp only [par_apply, xin_apply x0 0 _ (by omega), Nat.zero_add]

/-- The second half's rows. -/
theorem yhi_apply (r : Fin 256) (k : Fin 1024) : yhi x0 x1 x2 (ix2 r k) = row x0 x1 x2 ⟨256 + r.val, by omega⟩ k := by
  unfold yhi row
  rw [vln_apply]
  simp only [par_apply, xin_apply x0 256 _ (by omega)]

/-- Both halves' rows. -/
theorem ycat_apply (r : Fin 512) (k : Fin 1024) : vcat (ylo x0 x1 x2) (yhi x0 x1 x2) (ix2 r k) = row x0 x1 x2 r k := by
  rw [vcat_apply]
  split
  · rw [ylo_apply]
  · rw [yhi_apply]
    exact congrArg (fun r => row x0 x1 x2 r k) (Fin.ext (by dsimp only; omega))

/-- A column of the first result: scaled queries, keys twice, values twice. -/
def col4 (p : Fin 6656 → EReal) (j : Fin 1536) : EReal :=
  if j.val < 1024 then p ⟨j.val, by omega⟩ * Ideal.ofBits .f32 0x3E000000#32
  else p ⟨1024 + 64 * ((j.val - 1024) / 128) + j.val % 64, by omega⟩

/-- A column of the second result: attention's gate, the recurrence's inputs, its gate. -/
def col5 (p : Fin 6656 → EReal) (j : Fin 5376) : EReal :=
  p (if h : j.val < 1024 then ⟨4608 + j.val, by omega⟩ else if h' : j.val < 4352 then ⟨256 + j.val, by omega⟩ else ⟨1280 + j.val, by omega⟩)

/-- The queries' tiles of the first half. -/
theorem qlo (o : Nat) (h) (ho : o + 512 ≤ 1024) (r : Fin 256) (j : Fin 512) (R : Fin 512) (J : Fin 1536) (hR : R.val = r.val) (hJ : J.val = o + j.val) :
    vq (ylo x0 x1 x2) (w5 x3 o h) (ix2 r j) = col4 (prod x0 x1 x2 x3 R) J := by
  rw [vq_apply]
  unfold col4 prod
  rw [if_pos (by omega)]
  simp only [ylo_apply, w5_apply x3 o h (by omega)]
  have eR : (⟨r.val, by omega⟩ : Fin 512) = R := Fin.ext hR.symm
  have eJ : (⟨o + j.val, by omega⟩ : Fin 6656) = ⟨J.val, by omega⟩ := Fin.ext hJ.symm
  rw [eR, eJ]

/-- The queries' tiles of the second half. -/
theorem qhi (o : Nat) (h) (ho : o + 512 ≤ 1024) (r : Fin 256) (j : Fin 512) (R : Fin 512) (J : Fin 1536) (hR : R.val = 256 + r.val) (hJ : J.val = o + j.val) :
    vq (yhi x0 x1 x2) (w5 x3 o h) (ix2 r j) = col4 (prod x0 x1 x2 x3 R) J := by
  rw [vq_apply]
  unfold col4 prod
  rw [if_pos (by omega)]
  simp only [yhi_apply, w5_apply x3 o h (by omega)]
  have eR : (⟨256 + r.val, by omega⟩ : Fin 512) = R := Fin.ext hR.symm
  have eJ : (⟨o + j.val, by omega⟩ : Fin 6656) = ⟨J.val, by omega⟩ := Fin.ext hJ.symm
  rw [eR, eJ]

/-- The keys' and values' columns. -/
theorem kv_apply (r : Fin 512) (j : Fin 256) : kv x0 x1 x2 x3 (ix2 r j) = prod x0 x1 x2 x3 r ⟨1024 + j.val, by omega⟩ := by
  unfold kv prod
  rw [vmm2_apply]
  simp only [ycat_apply, w2_apply x3 1024 _ (by omega)]

/-- The keys' or values' columns, each head twice. -/
theorem kvd (o : Nat) (h : S512x256.Slices ![0, o] S512x128) (ho : o = 0 ∨ o = 128) (r : Fin 512) (j : Fin 256) (R : Fin 512) (J : Fin 1536)
    (hR : R.val = r.val) (hJ : J.val = 1024 + 2 * o + j.val) :
    vdup (extractStridedSlice S512x128 ![0, o] (kv x0 x1 x2 x3) h) (ix2 r j) = col4 (prod x0 x1 x2 x3 R) J := by
  rw [vdup_apply]
  have e (l : Fin 128) : extractStridedSlice S512x128 ![0, o] (kv x0 x1 x2 x3) h (ix2 r l) = kv x0 x1 x2 x3 (ix2 r ⟨o + l.val, by omega⟩) := by
    pointwise []
  rw [e, kv_apply]
  unfold col4
  rw [if_neg (by omega)]
  obtain rfl : R = r := Fin.ext hR
  exact congrArg (prod x0 x1 x2 x3 R) (Fin.ext (by dsimp only; omega))

/-- The second result's tiles of 512 columns. -/
theorem t5 (o d : Nat) (h) (ho : o + 512 ≤ 6656) (r : Fin 512) (j : Fin 512) (R : Fin 512) (J : Fin 5376) (hR : R.val = r.val) (hJ : J.val = d + j.val)
    (hd : (d + 512 ≤ 1024 ∧ o = 4608 + d) ∨ (1024 ≤ d ∧ d + 512 ≤ 4352 ∧ o = 256 + d) ∨ (4352 ≤ d ∧ o = 1280 + d)) :
    vmm5 (vcat (ylo x0 x1 x2) (yhi x0 x1 x2)) (w5 x3 o h) (ix2 r j) = col5 (prod x0 x1 x2 x3 R) J := by
  rw [vmm5_apply]
  simp only [ycat_apply, w5_apply x3 o h ho]
  unfold col5
  obtain rfl : R = r := Fin.ext hR
  refine Eq.trans (b := prod x0 x1 x2 x3 R ⟨o + j.val, by omega⟩) rfl (congrArg (prod x0 x1 x2 x3 R) (Fin.ext ?_))
  split
  · dsimp only; omega
  · split <;> (dsimp only; omega)

/-- The second result's tile of 256 columns. -/
theorem t2 (o d : Nat) (h) (ho : o + 256 ≤ 6656) (r : Fin 512) (j : Fin 256) (R : Fin 512) (J : Fin 5376) (hR : R.val = r.val) (hJ : J.val = d + j.val)
    (hd : 1024 ≤ d ∧ d + 256 ≤ 4352 ∧ o = 256 + d) :
    vmm2 (vcat (ylo x0 x1 x2) (yhi x0 x1 x2)) (w2 x3 o h) (ix2 r j) = col5 (prod x0 x1 x2 x3 R) J := by
  rw [vmm2_apply]
  simp only [ycat_apply, w2_apply x3 o h ho]
  unfold col5
  obtain rfl : R = r := Fin.ext hR
  refine Eq.trans (b := prod x0 x1 x2 x3 R ⟨o + j.val, by omega⟩) rfl (congrArg (prod x0 x1 x2 x3 R) (Fin.ext ?_))
  rw [dif_neg (by omega), dif_pos (by omega)]
  dsimp only; omega

/-- The first result's block. -/
theorem block4 (y : S512x1536.Idx) :
    View.canon (Val := Elt Ideal) (e := .bf16) (pieces4 x0 x1 x2 x3) y = col4 (prod x0 x1 x2 x3 (y 0)) (y 1) := by
  unfold pieces4
  refine View.canon_eq_of_allAt _ y _ (View.cover_of_tiledBy _ ![256, 256] (by sl_kernel_rfl) y) ?_
  refine View.allAt_cons_unit _ _ _ _ _ (fun x h => ?_) (View.allAt_cons_unit _ _ _ _ _ (fun x h => ?_) (View.allAt_cons_unit _ _ _ _ _ (fun x h => ?_)
    (View.allAt_cons_unit _ _ _ _ _ (fun x h => ?_) (View.allAt_cons_unit _ _ _ _ _ (fun x h => ?_) (View.allAt_cons_unit _ _ _ _ _ (fun x h => ?_) (View.allAt_nil _ _))))))
  all_goals
    have h0 := h 0
    have h1 := h 1
    obtain ⟨a, b, rfl⟩ : ∃ a b, x = ix2 a b := ⟨x 0, x 1, eq_ix2 x⟩
  · exact kvd x0 x1 x2 x3 128 _ (.inr rfl) a b _ _ (h0.trans (Nat.zero_add _)) h1
  · exact kvd x0 x1 x2 x3 0 _ (.inl rfl) a b _ _ (h0.trans (Nat.zero_add _)) h1
  · exact qhi x0 x1 x2 x3 512 _ (by omega) a b _ _ h0 h1
  · exact qlo x0 x1 x2 x3 512 _ (by omega) a b _ _ (h0.trans (Nat.zero_add _)) h1
  · exact qhi x0 x1 x2 x3 0 _ (by omega) a b _ _ h0 h1
  · exact qlo x0 x1 x2 x3 0 _ (by omega) a b _ _ (h0.trans (Nat.zero_add _)) h1

/-- The second result's block. -/
theorem block5 (y : S512x5376.Idx) :
    View.canon (Val := Elt Ideal) (e := .f32) (pieces5 x0 x1 x2 x3) y = col5 (prod x0 x1 x2 x3 (y 0)) (y 1) := by
  unfold pieces5
  refine View.canon_eq_of_allAt _ y _ (View.cover_of_tiledBy _ ![512, 256] (by sl_kernel_rfl) y) ?_
  refine View.allAt_cons_unit _ _ _ _ _ (fun x h => ?_) (View.allAt_cons_unit _ _ _ _ _ (fun x h => ?_) (View.allAt_cons_unit _ _ _ _ _ (fun x h => ?_)
    (View.allAt_cons_unit _ _ _ _ _ (fun x h => ?_) (View.allAt_cons_unit _ _ _ _ _ (fun x h => ?_) (View.allAt_cons_unit _ _ _ _ _ (fun x h => ?_)
    (View.allAt_cons_unit _ _ _ _ _ (fun x h => ?_) (View.allAt_cons_unit _ _ _ _ _ (fun x h => ?_) (View.allAt_cons_unit _ _ _ _ _ (fun x h => ?_)
    (View.allAt_cons_unit _ _ _ _ _ (fun x h => ?_) (View.allAt_cons_unit _ _ _ _ _ (fun x h => ?_) (View.allAt_nil _ _)))))))))))
  all_goals
    have h0 := h 0
    have h1 := h 1
    obtain ⟨a, b, rfl⟩ : ∃ a b, x = ix2 a b := ⟨x 0, x 1, eq_ix2 x⟩
  · exact t5 x0 x1 x2 x3 6144 4864 _ (by omega) a b _ _ (h0.trans (Nat.zero_add _)) h1 (by omega)
  · exact t5 x0 x1 x2 x3 5632 4352 _ (by omega) a b _ _ (h0.trans (Nat.zero_add _)) h1 (by omega)
  · exact t2 x0 x1 x2 x3 4352 4096 _ (by omega) a b _ _ (h0.trans (Nat.zero_add _)) h1 (by omega)
  · exact t5 x0 x1 x2 x3 3840 3584 _ (by omega) a b _ _ (h0.trans (Nat.zero_add _)) h1 (by omega)
  · exact t5 x0 x1 x2 x3 3328 3072 _ (by omega) a b _ _ (h0.trans (Nat.zero_add _)) h1 (by omega)
  · exact t5 x0 x1 x2 x3 2816 2560 _ (by omega) a b _ _ (h0.trans (Nat.zero_add _)) h1 (by omega)
  · exact t5 x0 x1 x2 x3 2304 2048 _ (by omega) a b _ _ (h0.trans (Nat.zero_add _)) h1 (by omega)
  · exact t5 x0 x1 x2 x3 1792 1536 _ (by omega) a b _ _ (h0.trans (Nat.zero_add _)) h1 (by omega)
  · exact t5 x0 x1 x2 x3 1280 1024 _ (by omega) a b _ _ (h0.trans (Nat.zero_add _)) h1 (by omega)
  · exact t5 x0 x1 x2 x3 5120 512 _ (by omega) a b _ _ (h0.trans (Nat.zero_add _)) h1 (by omega)
  · exact t5 x0 x1 x2 x3 4608 0 _ (by omega) a b _ _ (h0.trans (Nat.zero_add _)) h1 (by omega)

end Cert.Prj

end
-- ==== Proof.Prj3.lean ====
module

public import proofs.«01_k».proof.Proof.Prj2
public import Idealize.ShloMosaic.Lib.StableHlo.ReadAt

@[expose] public section

set_option maxRecDepth 16384

noncomputable section

namespace Cert.Prj

open Cert.Kernel3Ideal Cert.Kernel3Ideal.Gen Idealize.ShloMosaic Idealize.ShloMosaic.TcCoe Idealize.SL.Sem

/-- A row of the input, normalised, times a column of the matrix. -/
def proj (x : S8x4096x1024.Idx → EReal) (g b : S1024.Idx → EReal) (w : S1x1024x6656.Idx → EReal) (a : Fin 8) (s : Fin 4096) (j : Fin 6656) : EReal :=
  ∑ k : Fin 1024, Cert.Ffn.lnRow (fun k => x (ix3 a s k)) (fun k => g (ix1 k)) (fun k => b (ix1 k)) k * w (ix3 0 k j)

variable (m : (ℓ : Loc nD τ sig) → Buf (Elt Ideal) ℓ) (c : Dev nD)

/-- The windows' blocks: the rows move with the grid, the parameters stay. -/
theorem idx (t : Fin cfg0.N) : win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0]) t

/-- The rows the launch finds. -/
theorem V_x (i : S32768x1024.Idx) : V m c main_v2 i =
    m ((c : Thread nD τ).loc main_arg0) (ix3 ⟨(i 0).val / 4096, by idx_bounds i; omega⟩ ⟨(i 0).val % 4096, by omega⟩ (i 1)) := by
  unfold V
  after_reads_at

/-- The norm's scale. -/
theorem V_g (i : S1x1024.Idx) : V m c main_v0 i = m ((c : Thread nD τ).loc main_arg1) (ix1 (i 1)) := by
  unfold V
  after_reads_at

/-- The norm's offset. -/
theorem V_b (i : S1x1024.Idx) : V m c main_v1 i = m ((c : Thread nD τ).loc main_arg2) (ix1 (i 1)) := by
  unfold V
  after_reads_at

/-- The matrix. -/
theorem V_w (i : S1024x6656.Idx) : V m c main_v4 i = m ((c : Thread nD τ).loc main_arg3) (ix3 0 (i 0) (i 1)) := by
  unfold V
  after_reads_at

/-- The block of the input's rows at a step. -/
theorem blk_x (t : Fin cfg0.N) (y : Fin 512) (k : Fin 1024) (a : Fin 8) (s : Fin 4096) (hr : a.val * 4096 + s.val = t.val * 512 + y.val) :
    iblk m c 0 t (ix2 y k) = m ((c : Thread nD τ).loc main_arg0) (ix3 a s k) := by
  refine (V_x m c _).trans ?_
  blk_ext [idx t]

/-- The block of the scale. -/
theorem blk_g (t : Fin cfg0.N) (k : Fin 1024) : iblk m c 1 t (ix2 0 k) = m ((c : Thread nD τ).loc main_arg1) (ix1 k) := by
  refine (V_g m c _).trans ?_
  blk_ext [idx t]

/-- The block of the offset. -/
theorem blk_b (t : Fin cfg0.N) (k : Fin 1024) : iblk m c 2 t (ix2 0 k) = m ((c : Thread nD τ).loc main_arg2) (ix1 k) := by
  refine (V_b m c _).trans ?_
  blk_ext [idx t]

/-- The block of the matrix. -/
theorem blk_w (t : Fin cfg0.N) (k : Fin 1024) (j : Fin 6656) : iblk m c 3 t (ix2 k j) = m ((c : Thread nD τ).loc main_arg3) (ix3 0 k j) := by
  refine (V_w m c _).trans ?_
  blk_ext [idx t]

/-- A step's rows are rows of the whole. -/
theorem prod_eq (t : Fin cfg0.N) (y : Fin 512) (a : Fin 8) (s : Fin 4096) (hr : a.val * 4096 + s.val = t.val * 512 + y.val) :
    prod (iblk m c 0 t) (iblk m c 1 t) (iblk m c 2 t) (iblk m c 3 t) y =
      proj (m ((c : Thread nD τ).loc main_arg0)) (m ((c : Thread nD τ).loc main_arg1)) (m ((c : Thread nD τ).loc main_arg2)) (m ((c : Thread nD τ).loc main_arg3)) a s := by
  funext j
  unfold prod proj row
  have e0 := funext fun k => blk_x m c t y k a s hr
  have e1 := funext fun k => blk_g m c t k
  have e2 := funext fun k => blk_b m c t k
  refine Finset.sum_congr rfl fun k _ => ?_
  rw [e0, e1, e2, blk_w m c t k j]

/-- The first array the kernel leaves. -/
theorem final4 : (dats m 0 c).arrAt 4 cfg0.N = fun i : S32768x1536.Idx =>
    col4 (proj (m ((c : Thread nD τ).loc main_arg0)) (m ((c : Thread nD τ).loc main_arg1)) (m ((c : Thread nD τ).loc main_arg2)) (m ((c : Thread nD τ).loc main_arg3))
      ⟨(i 0).val / 4096, by idx_bounds i; omega⟩ ⟨(i 0).val % 4096, by omega⟩) (i 1) := by
  refine (dats m 0 c).arrAt_eq_of_covers 4 _ (by decide +kernel) fun t hf y => ?_
  blk_simp
  rw [after0_4]
  unfold outsAt0
  dsimp only
  rw [out4_eq]
  have h0 : win0_4.index t 0 = t.val := congrFun (idx t).2.2.2.2.1 0
  have hq : ((win0_4.blk t).view.emb y 1 : Nat) = y 1 := by blk_simp [idx t]
  refine (block4 _ _ _ _ y).trans ?_
  refine congrArg₂ col4 (prod_eq m c t (y 0) _ _ ?_) (Fin.ext hq.symm)
  exact (Nat.div_add_mod' _ 4096).trans (congrArg (fun z => z * 512 + (y 0 : Nat)) h0)

/-- The second array the kernel leaves. -/
theorem final5 : (dats m 0 c).arrAt 5 cfg0.N = fun i : S32768x5376.Idx =>
    col5 (proj (m ((c : Thread nD τ).loc main_arg0)) (m ((c : Thread nD τ).loc main_arg1)) (m ((c : Thread nD τ).loc main_arg2)) (m ((c : Thread nD τ).loc main_arg3))
      ⟨(i 0).val / 4096, by idx_bounds i; omega⟩ ⟨(i 0).val % 4096, by omega⟩) (i 1) := by
  refine (dats m 0 c).arrAt_eq_of_covers 5 _ (by decide +kernel) fun t hf y => ?_
  blk_simp
  rw [after0_5]
  unfold outsAt0
  dsimp only
  rw [out5_eq]
  have h0 : win0_5.index t 0 = t.val := congrFun (idx t).2.2.2.2.2 0
  have hq : ((win0_5.blk t).view.emb y 1 : Nat) = y 1 := by blk_simp [idx t]
  refine (block5 _ _ _ _ y).trans ?_
  refine congrArg₂ col5 (prod_eq m c t (y 0) _ _ ?_) (Fin.ext hq.symm)
  exact (Nat.div_add_mod' _ 4096).trans (congrArg (fun z => z * 512 + (y 0 : Nat)) h0)

end Cert.Prj

end
-- ==== Proof.Prj4.lean ====
module

public import proofs.«01_k».proof.Proof.Prj3
public import proofs.«01_k».proof.Proof.Gen.Reference3Ideal.Read

@[expose] public section

set_option maxRecDepth 16384

noncomputable section

namespace Cert.Prj

open Cert.Reference3Ideal Cert.Reference3Ideal.Gen Cert.Reference3Ideal.Read Idealize.ShloMosaic

/-- The reference's layer normalisation, row by row. -/
theorem rln_apply (x : FVec Ideal S8x4096x1024 .f32) (g b : FVec Ideal S1024 .f32) (i : S8x4096x1024.Idx) :
    val_main_v23 (F := Ideal) x g b i = Cert.Ffn.lnRow (fun k => x (ix3 (i 0) (i 1) k)) (fun k => g (ix1 k)) (fun k => b (ix1 k)) (i 2) := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3]
  unfold Cert.Ffn.lnRow Cert.Ffn.mean
  rw [eq_ix3 i]
  rfl

variable (x : FVec Ideal S8x4096x1024 .f32) (g b : FVec Ideal S1024 .f32) (w : FVec Ideal S1x1024x6656 .f32)

/-- The reference's projection. -/
theorem rproj_apply (a : Fin 8) (s : Fin 4096) (j : Fin 6656) : val_main_v25 (F := Ideal) x g b w (ix3 a s j) = proj x g b w a s j := by
  have e : val_main_v25 (F := Ideal) x g b w (ix3 a s j) = ∑ k : Fin 1024, val_main_v23 (F := Ideal) x g b (ix3 a s k) * w (ix3 0 k j) := by
    pointwise [val_main_v25, val_main_v24]
  rw [e]
  exact Finset.sum_congr rfl fun k _ => congrArg (· * w (ix3 0 k j)) (rln_apply x g b (ix3 a s k))

/-- The reference's first result. -/
theorem r4_apply (a : Fin 8) (s : Fin 4096) (j : Fin 1536) : val_main_v41 (F := Ideal) x g b w (ix3 a s j) = col4 (proj x g b w a s) j := by
  pointwise [val_main_v41, val_main_v40, val_main_v39, val_main_v38, val_main_v37, val_main_v36, val_main_v35, val_main_v34, val_main_v33, val_main_v32,
    val_main_v28, val_main_v27, val_main_v26, val_main_cst_4]
  simp only [rproj_apply]
  unfold col4
  split
  · rfl
  · split
    · exact congrArg (proj x g b w a s) (Fin.ext (by dsimp only; omega))
    · exact congrArg (proj x g b w a s) (Fin.ext (by dsimp only; omega))

/-- The reference's second result. -/
theorem r5_apply (a : Fin 8) (s : Fin 4096) (j : Fin 5376) : val_main_v42 (F := Ideal) x g b w (ix3 a s j) = col5 (proj x g b w a s) j := by
  pointwise [val_main_v42, val_main_v29, val_main_v30, val_main_v31]
  simp only [rproj_apply]
  unfold col5
  split
  · rfl
  · split
    · rw [dif_pos (by omega)]
      exact congrArg (proj x g b w a s) (Fin.ext (by dsimp only; omega))
    · rw [dif_neg (by omega)]
      exact congrArg (proj x g b w a s) (Fin.ext (by dsimp only; omega))

/-- The first result at a row of the whole. -/
theorem ref4 (i : S32768x1536.Idx) : val_main_v43 (F := Ideal) x g b w i =
    col4 (proj x g b w ⟨(i 0).val / 4096, by idx_bounds i; omega⟩ ⟨(i 0).val % 4096, by omega⟩) (i 1) := by
  have hi : idx_main_v43 i = ix3 ⟨(i 0).val / 4096, by idx_bounds i; omega⟩ ⟨(i 0).val % 4096, by omega⟩ (i 1) := by
    idx_bounds i
    funext a
    fin_cases a <;> refine Fin.ext ?_ <;> simp [idx_main_v43] <;> omega
  rw [val_main_v43_apply]
  exact (congrArg _ hi).trans (r4_apply x g b w _ _ _)

/-- The second result at a row of the whole. -/
theorem ref5 (i : S32768x5376.Idx) : val_main_v44 (F := Ideal) x g b w i =
    col5 (proj x g b w ⟨(i 0).val / 4096, by idx_bounds i; omega⟩ ⟨(i 0).val % 4096, by omega⟩) (i 1) := by
  have hi : idx_main_v44 i = ix3 ⟨(i 0).val / 4096, by idx_bounds i; omega⟩ ⟨(i 0).val % 4096, by omega⟩ (i 1) := by
    idx_bounds i
    funext a
    fin_cases a <;> refine Fin.ext ?_ <;> simp [idx_main_v44] <;> omega
  rw [val_main_v44_apply]
  exact (congrArg _ hi).trans (r5_apply x g b w _ _ _)

end Cert.Prj

end
-- ==== Proof.Prj5.lean ====
module

public import proofs.«01_k».proof.Defs
public import proofs.«01_k».proof.Proof.Prj4
public import proofs.«01_k».proof.Proof.Gen.Kernel3.Frame
public import Idealize.ShloMosaic.Lib.Quiescent

@[expose] public section

set_option maxRecDepth 16384

noncomputable section

namespace Cert.Prj

open Idealize.ShloMosaic Idealize.ShloMosaic.TcCoe Idealize.SL.Sem

/-- The reference runs, is quiescent at its end and keeps its arguments. -/
theorem frame_ref : Cert.quiescent_Reference3Ideal (hReference3Ideal := Cert.Reference3Ideal.Gen.facts) := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The kernel and the reference end with the same projections. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨_, _, Cert.Kernel3Ideal.Value.run_blocks m ρ, ?_⟩
  refine (θ_run Cert.Reference3Ideal.defs _ _).mono (fun _ h c => ⟨(h c).1.trans ?_, (h c).2.1.trans ?_, (h c).2.2⟩)
    (Cert.Reference3Ideal.Value.run (F := Ideal) m' ρ')
  · obtain ⟨h0, h1, h2, h3⟩ := hagree c
    refine (Cert.Reference3Ideal.Read.val_main_v43_eq (F := Ideal) m' c).trans ?_
    refine Eq.trans ?_ (final4 m c).symm
    show Cert.Reference3Ideal.Read.val_main_v43 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
    rw [h0, h1, h2, h3]
    exact funext fun i => ref4 _ _ _ _ i
  · obtain ⟨h0, h1, h2, h3⟩ := hagree c
    refine (Cert.Reference3Ideal.Read.val_main_v44_eq (F := Ideal) m' c).trans ?_
    refine Eq.trans ?_ (final5 m c).symm
    show Cert.Reference3Ideal.Read.val_main_v44 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
    rw [h0, h1, h2, h3]
    exact funext fun i => ref5 _ _ _ _ i

end Cert.Prj

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel2Ideal.Value
public import proofs.«01_k».proof.Proof.Gen.ReferenceIdeal.Run
public import proofs.«01_k».proof.Proof.Gen.KernelIdeal.Value
public import proofs.«01_k».proof.Proof.Gen.ReferenceIdeal.Read
public import proofs.«01_k».proof.Proof.Gen.Kernel3.Frame
public import proofs.«01_k».proof.Proof.Gen.Kernel3Ideal.Value
public import proofs.«01_k».proof.Proof.Att10
public import proofs.«01_k».proof.Proof.Ffn5
public import proofs.«01_k».proof.Proof.Prj5
public import Idealize.ShloMosaic.Lib.Quiescent

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts, Cert.Att.pre_facts,
    fun m ρ _ => Cert.Kernel.Gen.frame m ρ,
    fun m ρ _ => Cert.KernelIdeal.Gen.frame m ρ,
    fun m ρ _ => Cert.KernelIdeal.Gen.frame m ρ,
    Cert.Att.frame_ref,
    Cert.Att.frame_ref_finite,
    fun m ρ _ => Cert.Kernel2.Gen.frame m ρ,
    fun m ρ _ => Cert.Kernel2Ideal.Gen.frame m ρ,
    Cert.Ffn.frame_ref,
    fun m ρ _ => Cert.Kernel3.Gen.frame m ρ,
    fun m ρ _ => Cert.Kernel3Ideal.Gen.frame m ρ,
    Cert.Prj.frame_ref,
    IdealRules.named_const.statement Cert.KernelIdeal.κ "log2_e" .f32 0x3FB8AA3B#32 _ rfl,
    Cert.Att.algebraic,
    trivial,
    Cert.Ffn.algebraic,
    trivial,
    Cert.Prj.algebraic⟩

end Cert.Proof

end
